-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S8x256x2048 : Shape := ⟨3, ![8, 256, 2048]⟩
abbrev S8x3x256x2048 : Shape := ⟨4, ![8, 3, 256, 2048]⟩
abbrev S8x4 : Shape := ⟨2, ![8, 4]⟩
abbrev S8x3x4 : Shape := ⟨3, ![8, 3, 4]⟩
abbrev S_ : Shape := ⟨0, ![]⟩
abbrev S256x256 : Shape := ⟨2, ![256, 256]⟩
abbrev S1x256x2048 : Shape := ⟨3, ![1, 256, 2048]⟩
abbrev S1x1 : Shape := ⟨2, ![1, 1]⟩
abbrev S1x1x1 : Shape := ⟨3, ![1, 1, 1]⟩
abbrev S1x1x256x512 : Shape := ⟨4, ![1, 1, 256, 512]⟩
abbrev S256x512 : Shape := ⟨2, ![256, 512]⟩
abbrev S1x256x512 : Shape := ⟨3, ![1, 256, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .bf16⟩
  | .hbm, ⟨1, _⟩ => ⟨S256x2048, .bf16⟩
  | .hbm, ⟨2, _⟩ => ⟨S256x2048, .f32⟩
  | .local _ .vmem, ⟨0, _⟩ => ⟨S2048x256, .bf16⟩
  | .local _ .vmem, ⟨1, _⟩ => ⟨S256x2048, .bf16⟩
  | .local _ .vmem, ⟨2, _⟩ => ⟨S256x2048, .f32⟩
  | .local _ .vmem, ⟨3, _⟩ => ⟨S8x256x2048, .bf16⟩
  | .local _ .vmem, ⟨4, _⟩ => ⟨S8x3x256x2048, .bf16⟩
  | _, _ => ⟨S2048x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v11 : BitVec 32 := Scalar.xori v2 c1_i32_5
  let c1_i32_7 : BitVec 32 := 1#32
  let v12 : BitVec 32 := Scalar.muli v11 c1_i32_7
  let v13 : BitVec 32 := Scalar.addi c0_i32 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v14 : BitVec 32 := Scalar.xori v2 c3_i32
  let c1_i32_9 : BitVec 32 := 1#32
  let v15 : BitVec 32 := Scalar.muli v14 c1_i32_9
  let v16 : BitVec 32 := Scalar.addi c0_i32_10 v15
  v16.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.xori v2 c4_i32
  let c1_i32_12 : BitVec 32 := 1#32
  let v18 : BitVec 32 := Scalar.muli v17 c1_i32_12
  let v19 : BitVec 32 := Scalar.addi c0_i32_13 v18
  v19.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_21 : BitVec 32 := 0#32
  let v29 : BitVec 1 := Scalar.cmpi .ne v9 c0_i32_21
  let v30 : BitVec 32 := Scalar.extui v29
  let c0_i32_22 : BitVec 32 := 0#32
  let v31 : BitVec 1 := Scalar.cmpi .ne v30 c0_i32_22
  v31

def k0_dev4 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_23 : BitVec 32 := 0#32
  let v32 : BitVec 1 := Scalar.cmpi .ne v9 c0_i32_23
  let v33 : BitVec 32 := Scalar.extui v32
  let c0_i32_24 : BitVec 32 := 0#32
  let v34 : BitVec 1 := Scalar.cmpi .ne v33 c0_i32_24
  v34

def k0_dev5 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_25 : BitVec 32 := 0#32
  let v35 : BitVec 1 := Scalar.cmpi .ne v9 c0_i32_25
  let v36 : BitVec 32 := Scalar.extui v35
  let c0_i32_26 : BitVec 32 := 0#32
  let v37 : BitVec 1 := Scalar.cmpi .ne v36 c0_i32_26
  v37

def k0_dev6 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_27 : BitVec 32 := 0#32
  let v38 : BitVec 1 := Scalar.cmpi .ne v7 c0_i32_27
  let v39 : BitVec 32 := Scalar.extui v38
  let c0_i32_28 : BitVec 32 := 0#32
  let v40 : BitVec 1 := Scalar.cmpi .ne v39 c0_i32_28
  v40

def k0_dev7 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_33 : BitVec 32 := 1#32
  let v48 : BitVec 1 := Scalar.cmpi .ne v5 c1_i32_33
  let v49 : BitVec 32 := Scalar.extui v48
  let c0_i32_34 : BitVec 32 := 0#32
  let v50 : BitVec 1 := Scalar.cmpi .ne v49 c0_i32_34
  v50

def k0_dev8 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v702 : BitVec 32 := Scalar.xori v2 c1_i32_462
  let c1_i32_471 : BitVec 32 := 1#32
  let v703 : BitVec 32 := Scalar.muli v702 c1_i32_471
  let v704 : BitVec 32 := Scalar.addi c0_i32_472 v703
  v704.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_35 : BitVec 32 := 1#32
  let v51 : BitVec 1 := Scalar.cmpi .ne v5 c1_i32_35
  let v52 : BitVec 32 := Scalar.extui v51
  let c0_i32_36 : BitVec 32 := 0#32
  let v53 : BitVec 1 := Scalar.cmpi .ne v52 c0_i32_36
  v53

def k0_dev9 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v702 : BitVec 32 := Scalar.xori v2 c1_i32_462
  let c1_i32_471 : BitVec 32 := 1#32
  let v703 : BitVec 32 := Scalar.muli v702 c1_i32_471
  let v704 : BitVec 32 := Scalar.addi c0_i32_472 v703
  v704.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_37 : BitVec 32 := 0#32
  let v54 : BitVec 1 := Scalar.cmpi .ne v7 c0_i32_37
  let v55 : BitVec 32 := Scalar.extui v54
  let c0_i32_38 : BitVec 32 := 0#32
  let v56 : BitVec 1 := Scalar.cmpi .ne v55 c0_i32_38
  v56

def k0_dev10 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_39 : BitVec 32 := 0#32
  let v57 : BitVec 1 := Scalar.cmpi .ne v7 c0_i32_39
  let v58 : BitVec 32 := Scalar.extui v57
  let c0_i32_40 : BitVec 32 := 0#32
  let v59 : BitVec 1 := Scalar.cmpi .ne v58 c0_i32_40
  v59

def k0_dev11 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_45 : BitVec 32 := 1#32
  let v67 : BitVec 1 := Scalar.cmpi .ne v7 c1_i32_45
  let v68 : BitVec 32 := Scalar.extui v67
  let c0_i32_46 : BitVec 32 := 0#32
  let v69 : BitVec 1 := Scalar.cmpi .ne v68 c0_i32_46
  v69

def k0_dev12 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_47 : BitVec 32 := 1#32
  let v70 : BitVec 1 := Scalar.cmpi .ne v7 c1_i32_47
  let v71 : BitVec 32 := Scalar.extui v70
  let c0_i32_48 : BitVec 32 := 0#32
  let v72 : BitVec 1 := Scalar.cmpi .ne v71 c0_i32_48
  v72

def k0_dev13 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_49 : BitVec 32 := 0#32
  let v73 : BitVec 1 := Scalar.cmpi .ne v9 c0_i32_49
  let v74 : BitVec 32 := Scalar.extui v73
  let c0_i32_50 : BitVec 32 := 0#32
  let v75 : BitVec 1 := Scalar.cmpi .ne v74 c0_i32_50
  v75

def k0_dev14 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_51 : BitVec 32 := 1#32
  let v76 : BitVec 1 := Scalar.cmpi .ne v5 c1_i32_51
  let v77 : BitVec 32 := Scalar.extui v76
  let c0_i32_52 : BitVec 32 := 0#32
  let v78 : BitVec 1 := Scalar.cmpi .ne v77 c0_i32_52
  v78

def k0_dev15 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v702 : BitVec 32 := Scalar.xori v2 c1_i32_462
  let c1_i32_471 : BitVec 32 := 1#32
  let v703 : BitVec 32 := Scalar.muli v702 c1_i32_471
  let v704 : BitVec 32 := Scalar.addi c0_i32_472 v703
  v704.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_57 : BitVec 32 := 0#32
  let v86 : BitVec 1 := Scalar.cmpi .ne v9 c0_i32_57
  let v87 : BitVec 32 := Scalar.extui v86
  let c0_i32_58 : BitVec 32 := 0#32
  let v88 : BitVec 1 := Scalar.cmpi .ne v87 c0_i32_58
  v88

def k0_dev16 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_59 : BitVec 32 := 0#32
  let v89 : BitVec 1 := Scalar.cmpi .ne v5 c0_i32_59
  let v90 : BitVec 32 := Scalar.extui v89
  let c0_i32_60 : BitVec 32 := 0#32
  let v91 : BitVec 1 := Scalar.cmpi .ne v90 c0_i32_60
  v91

def k0_dev17 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v702 : BitVec 32 := Scalar.xori v2 c1_i32_462
  let c1_i32_471 : BitVec 32 := 1#32
  let v703 : BitVec 32 := Scalar.muli v702 c1_i32_471
  let v704 : BitVec 32 := Scalar.addi c0_i32_472 v703
  v704.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_61 : BitVec 32 := 1#32
  let v92 : BitVec 1 := Scalar.cmpi .ne v7 c1_i32_61
  let v93 : BitVec 32 := Scalar.extui v92
  let c0_i32_62 : BitVec 32 := 0#32
  let v94 : BitVec 1 := Scalar.cmpi .ne v93 c0_i32_62
  v94

def k0_dev18 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_63 : BitVec 32 := 0#32
  let v95 : BitVec 1 := Scalar.cmpi .ne v5 c0_i32_63
  let v96 : BitVec 32 := Scalar.extui v95
  let c0_i32_64 : BitVec 32 := 0#32
  let v97 : BitVec 1 := Scalar.cmpi .ne v96 c0_i32_64
  v97

def k0_dev19 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v702 : BitVec 32 := Scalar.xori v2 c1_i32_462
  let c1_i32_471 : BitVec 32 := 1#32
  let v703 : BitVec 32 := Scalar.muli v702 c1_i32_471
  let v704 : BitVec 32 := Scalar.addi c0_i32_472 v703
  v704.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_69 : BitVec 32 := 0#32
  let v105 : BitVec 1 := Scalar.cmpi .ne v5 c0_i32_69
  let v106 : BitVec 32 := Scalar.extui v105
  let c0_i32_70 : BitVec 32 := 0#32
  let v107 : BitVec 1 := Scalar.cmpi .ne v106 c0_i32_70
  v107

def k0_dev20 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v702 : BitVec 32 := Scalar.xori v2 c1_i32_462
  let c1_i32_471 : BitVec 32 := 1#32
  let v703 : BitVec 32 := Scalar.muli v702 c1_i32_471
  let v704 : BitVec 32 := Scalar.addi c0_i32_472 v703
  v704.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_71 : BitVec 32 := 0#32
  let v108 : BitVec 1 := Scalar.cmpi .ne v7 c0_i32_71
  let v109 : BitVec 32 := Scalar.extui v108
  let c0_i32_72 : BitVec 32 := 0#32
  let v110 : BitVec 1 := Scalar.cmpi .ne v109 c0_i32_72
  v110

def k0_dev21 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_73 : BitVec 32 := 0#32
  let v111 : BitVec 1 := Scalar.cmpi .ne v7 c0_i32_73
  let v112 : BitVec 32 := Scalar.extui v111
  let c0_i32_74 : BitVec 32 := 0#32
  let v113 : BitVec 1 := Scalar.cmpi .ne v112 c0_i32_74
  v113

def k0_dev22 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_75 : BitVec 32 := 1#32
  let v114 : BitVec 1 := Scalar.cmpi .ne v9 c1_i32_75
  let v115 : BitVec 32 := Scalar.extui v114
  let c0_i32_76 : BitVec 32 := 0#32
  let v116 : BitVec 1 := Scalar.cmpi .ne v115 c0_i32_76
  v116

def k0_dev23 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_81 : BitVec 32 := 1#32
  let v124 : BitVec 1 := Scalar.cmpi .ne v9 c1_i32_81
  let v125 : BitVec 32 := Scalar.extui v124
  let c0_i32_82 : BitVec 32 := 0#32
  let v126 : BitVec 1 := Scalar.cmpi .ne v125 c0_i32_82
  v126

def k0_dev24 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_83 : BitVec 32 := 1#32
  let v127 : BitVec 1 := Scalar.cmpi .ne v9 c1_i32_83
  let v128 : BitVec 32 := Scalar.extui v127
  let c0_i32_84 : BitVec 32 := 0#32
  let v129 : BitVec 1 := Scalar.cmpi .ne v128 c0_i32_84
  v129

def k0_dev25 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_85 : BitVec 32 := 1#32
  let v130 : BitVec 1 := Scalar.cmpi .ne v5 c1_i32_85
  let v131 : BitVec 32 := Scalar.extui v130
  let c0_i32_86 : BitVec 32 := 0#32
  let v132 : BitVec 1 := Scalar.cmpi .ne v131 c0_i32_86
  v132

def k0_dev26 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v702 : BitVec 32 := Scalar.xori v2 c1_i32_462
  let c1_i32_471 : BitVec 32 := 1#32
  let v703 : BitVec 32 := Scalar.muli v702 c1_i32_471
  let v704 : BitVec 32 := Scalar.addi c0_i32_472 v703
  v704.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_87 : BitVec 32 := 0#32
  let v133 : BitVec 1 := Scalar.cmpi .ne v7 c0_i32_87
  let v134 : BitVec 32 := Scalar.extui v133
  let c0_i32_88 : BitVec 32 := 0#32
  let v135 : BitVec 1 := Scalar.cmpi .ne v134 c0_i32_88
  v135

def k0_dev27 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_93 : BitVec 32 := 1#32
  let v143 : BitVec 1 := Scalar.cmpi .ne v5 c1_i32_93
  let v144 : BitVec 32 := Scalar.extui v143
  let c0_i32_94 : BitVec 32 := 0#32
  let v145 : BitVec 1 := Scalar.cmpi .ne v144 c0_i32_94
  v145

def k0_dev28 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v702 : BitVec 32 := Scalar.xori v2 c1_i32_462
  let c1_i32_471 : BitVec 32 := 1#32
  let v703 : BitVec 32 := Scalar.muli v702 c1_i32_471
  let v704 : BitVec 32 := Scalar.addi c0_i32_472 v703
  v704.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_95 : BitVec 32 := 1#32
  let v146 : BitVec 1 := Scalar.cmpi .ne v9 c1_i32_95
  let v147 : BitVec 32 := Scalar.extui v146
  let c0_i32_96 : BitVec 32 := 0#32
  let v148 : BitVec 1 := Scalar.cmpi .ne v147 c0_i32_96
  v148

def k0_dev29 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_97 : BitVec 32 := 1#32
  let v149 : BitVec 1 := Scalar.cmpi .ne v5 c1_i32_97
  let v150 : BitVec 32 := Scalar.extui v149
  let c0_i32_98 : BitVec 32 := 0#32
  let v151 : BitVec 1 := Scalar.cmpi .ne v150 c0_i32_98
  v151

def k0_dev30 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v702 : BitVec 32 := Scalar.xori v2 c1_i32_462
  let c1_i32_471 : BitVec 32 := 1#32
  let v703 : BitVec 32 := Scalar.muli v702 c1_i32_471
  let v704 : BitVec 32 := Scalar.addi c0_i32_472 v703
  v704.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_99 : BitVec 32 := 1#32
  let v152 : BitVec 1 := Scalar.cmpi .ne v9 c1_i32_99
  let v153 : BitVec 32 := Scalar.extui v152
  let c0_i32_100 : BitVec 32 := 0#32
  let v154 : BitVec 1 := Scalar.cmpi .ne v153 c0_i32_100
  v154

def k0_dev31 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_105 : BitVec 32 := 1#32
  let v162 : BitVec 1 := Scalar.cmpi .ne v7 c1_i32_105
  let v163 : BitVec 32 := Scalar.extui v162
  let c0_i32_106 : BitVec 32 := 0#32
  let v164 : BitVec 1 := Scalar.cmpi .ne v163 c0_i32_106
  v164

def k0_dev32 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_107 : BitVec 32 := 1#32
  let v165 : BitVec 1 := Scalar.cmpi .ne v7 c1_i32_107
  let v166 : BitVec 32 := Scalar.extui v165
  let c0_i32_108 : BitVec 32 := 0#32
  let v167 : BitVec 1 := Scalar.cmpi .ne v166 c0_i32_108
  v167

def k0_dev33 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_462 : BitVec 32 := 3#32
  let v702 : BitVec 32 := Scalar.xori v2 c3_i32_462
  let c1_i32_471 : BitVec 32 := 1#32
  let v703 : BitVec 32 := Scalar.muli v702 c1_i32_471
  let v704 : BitVec 32 := Scalar.addi c0_i32_472 v703
  v704.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_109 : BitVec 32 := 1#32
  let v168 : BitVec 1 := Scalar.cmpi .ne v9 c1_i32_109
  let v169 : BitVec 32 := Scalar.extui v168
  let c0_i32_110 : BitVec 32 := 0#32
  let v170 : BitVec 1 := Scalar.cmpi .ne v169 c0_i32_110
  v170

def k0_dev34 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_462 : BitVec 32 := 4#32
  let v702 : BitVec 32 := Scalar.xori v2 c4_i32_462
  let c1_i32_471 : BitVec 32 := 1#32
  let v703 : BitVec 32 := Scalar.muli v702 c1_i32_471
  let v704 : BitVec 32 := Scalar.addi c0_i32_472 v703
  v704.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_111 : BitVec 32 := 0#32
  let v171 : BitVec 1 := Scalar.cmpi .ne v5 c0_i32_111
  let v172 : BitVec 32 := Scalar.extui v171
  let c0_i32_112 : BitVec 32 := 0#32
  let v173 : BitVec 1 := Scalar.cmpi .ne v172 c0_i32_112
  v173

def k0_dev35 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_462 : BitVec 32 := 1#32
  let v702 : BitVec 32 := Scalar.xori v2 c1_i32_462
  let c1_i32_471 : BitVec 32 := 1#32
  let v703 : BitVec 32 := Scalar.muli v702 c1_i32_471
  let v704 : BitVec 32 := Scalar.addi c0_i32_472 v703
  v704.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_113 : BitVec 32 := 1#32
  let v174 : BitVec 1 := Scalar.cmpi .ne v5 c1_i32_113
  let true_115 : BitVec 1 := 1#1
  let v176 : BitVec 1 := Scalar.xori v174 true_115
  let c2_i32 : BitVec 32 := 2#32
  let v8 : BitVec 32 := Scalar.shrsi v2 c2_i32
  let c1_i32_4 : BitVec 32 := 1#32
  let v9 : BitVec 32 := Scalar.andi v8 c1_i32_4
  let c0_i32_114 : BitVec 32 := 0#32
  let v175 : BitVec 1 := Scalar.cmpi .ne v9 c0_i32_114
  let v177 : BitVec 1 := Scalar.andi v176 v175
  let v178 : BitVec 32 := Scalar.extui v177
  let c0_i32_116 : BitVec 32 := 0#32
  let v179 : BitVec 1 := Scalar.cmpi .ne v178 c0_i32_116
  v179

def k0_dev36 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_486 : BitVec 32 := 4#32
  let v721 : BitVec 32 := Scalar.xori v2 c4_i32_486
  let c1_i32_495 : BitVec 32 := 1#32
  let v722 : BitVec 32 := Scalar.muli v721 c1_i32_495
  let v723 : BitVec 32 := Scalar.addi c0_i32_496 v722
  v723.toNat
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_117 : BitVec 32 := 0#32
  let v180 : BitVec 1 := Scalar.cmpi .ne v7 c0_i32_117
  let true_119 : BitVec 1 := 1#1
  let v182 : BitVec 1 := Scalar.xori v180 true_119
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_118 : BitVec 32 := 0#32
  let v181 : BitVec 1 := Scalar.cmpi .ne v5 c0_i32_118
  let v183 : BitVec 1 := Scalar.andi v182 v181
  let v184 : BitVec 32 := Scalar.extui v183
  let c0_i32_120 : BitVec 32 := 0#32
  let v185 : BitVec 1 := Scalar.cmpi .ne v184 c0_i32_120
  v185

def k0_dev37 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_121 : BitVec 32 := 0#32
  let v186 : BitVec 1 := Scalar.cmpi .ne v9 c0_i32_121
  let true_123 : BitVec 1 := 1#1
  let v188 : BitVec 1 := Scalar.xori v186 true_123
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_122 : BitVec 32 := 0#32
  let v187 : BitVec 1 := Scalar.cmpi .ne v5 c0_i32_122
  let v189 : BitVec 1 := Scalar.andi v188 v187
  let v190 : BitVec 32 := Scalar.extui v189
  let c0_i32_124 : BitVec 32 := 0#32
  let v191 : BitVec 1 := Scalar.cmpi .ne v190 c0_i32_124
  v191

def k0_dev38 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_486 : BitVec 32 := 1#32
  let v721 : BitVec 32 := Scalar.xori v2 c1_i32_486
  let c1_i32_495 : BitVec 32 := 1#32
  let v722 : BitVec 32 := Scalar.muli v721 c1_i32_495
  let v723 : BitVec 32 := Scalar.addi c0_i32_496 v722
  v723.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_125 : BitVec 32 := 1#32
  let v192 : BitVec 1 := Scalar.cmpi .ne v5 c1_i32_125
  let true_127 : BitVec 1 := 1#1
  let v194 : BitVec 1 := Scalar.xori v192 true_127
  let c1_i32_2 : BitVec 32 := 1#32
  let v6 : BitVec 32 := Scalar.shrsi v2 c1_i32_2
  let c1_i32_3 : BitVec 32 := 1#32
  let v7 : BitVec 32 := Scalar.andi v6 c1_i32_3
  let c0_i32_126 : BitVec 32 := 0#32
  let v193 : BitVec 1 := Scalar.cmpi .ne v7 c0_i32_126
  let v195 : BitVec 1 := Scalar.andi v194 v193
  let v196 : BitVec 32 := Scalar.extui v195
  let c0_i32_128 : BitVec 32 := 0#32
  let v197 : BitVec 1 := Scalar.cmpi .ne v196 c0_i32_128
  v197

def k0_dev39 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_485 : BitVec 32 := 3#32
  let v721 : BitVec 32 := Scalar.xori v2 c3_i32_485
  let c1_i32_494 : BitVec 32 := 1#32
  let v722 : BitVec 32 := Scalar.muli v721 c1_i32_494
  let v723 : BitVec 32 := Scalar.addi c0_i32_495 v722
  v723.toNat
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_129 : BitVec 32 := 0#32
  let v198 : BitVec 1 := Scalar.cmpi .ne v7 c0_i32_129
  let true_131 : BitVec 1 := 1#1
  let v200 : BitVec 1 := Scalar.xori v198 true_131
  let c2_i32 : BitVec 32 := 2#32
  let v8 : BitVec 32 := Scalar.shrsi v2 c2_i32
  let c1_i32_4 : BitVec 32 := 1#32
  let v9 : BitVec 32 := Scalar.andi v8 c1_i32_4
  let c0_i32_130 : BitVec 32 := 0#32
  let v199 : BitVec 1 := Scalar.cmpi .ne v9 c0_i32_130
  let v201 : BitVec 1 := Scalar.andi v200 v199
  let v202 : BitVec 32 := Scalar.extui v201
  let c0_i32_132 : BitVec 32 := 0#32
  let v203 : BitVec 1 := Scalar.cmpi .ne v202 c0_i32_132
  v203

def k0_dev40 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_485 : BitVec 32 := 4#32
  let v721 : BitVec 32 := Scalar.xori v2 c4_i32_485
  let c1_i32_494 : BitVec 32 := 1#32
  let v722 : BitVec 32 := Scalar.muli v721 c1_i32_494
  let v723 : BitVec 32 := Scalar.addi c0_i32_495 v722
  v723.toNat
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_133 : BitVec 32 := 0#32
  let v204 : BitVec 1 := Scalar.cmpi .ne v9 c0_i32_133
  let true_135 : BitVec 1 := 1#1
  let v206 : BitVec 1 := Scalar.xori v204 true_135
  let c1_i32_2 : BitVec 32 := 1#32
  let v6 : BitVec 32 := Scalar.shrsi v2 c1_i32_2
  let c1_i32_3 : BitVec 32 := 1#32
  let v7 : BitVec 32 := Scalar.andi v6 c1_i32_3
  let c0_i32_134 : BitVec 32 := 0#32
  let v205 : BitVec 1 := Scalar.cmpi .ne v7 c0_i32_134
  let v207 : BitVec 1 := Scalar.andi v206 v205
  let v208 : BitVec 32 := Scalar.extui v207
  let c0_i32_136 : BitVec 32 := 0#32
  let v209 : BitVec 1 := Scalar.cmpi .ne v208 c0_i32_136
  v209

def k0_dev41 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_485 : BitVec 32 := 3#32
  let v721 : BitVec 32 := Scalar.xori v2 c3_i32_485
  let c1_i32_494 : BitVec 32 := 1#32
  let v722 : BitVec 32 := Scalar.muli v721 c1_i32_494
  let v723 : BitVec 32 := Scalar.addi c0_i32_495 v722
  v723.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_137 : BitVec 32 := 1#32
  let v210 : BitVec 1 := Scalar.cmpi .ne v5 c1_i32_137
  let true_139 : BitVec 1 := 1#1
  let v212 : BitVec 1 := Scalar.xori v210 true_139
  let c2_i32 : BitVec 32 := 2#32
  let v8 : BitVec 32 := Scalar.shrsi v2 c2_i32
  let c1_i32_4 : BitVec 32 := 1#32
  let v9 : BitVec 32 := Scalar.andi v8 c1_i32_4
  let c0_i32_138 : BitVec 32 := 0#32
  let v211 : BitVec 1 := Scalar.cmpi .ne v9 c0_i32_138
  let v213 : BitVec 1 := Scalar.andi v212 v211
  let v214 : BitVec 32 := Scalar.extui v213
  let c0_i32_140 : BitVec 32 := 0#32
  let v215 : BitVec 1 := Scalar.cmpi .ne v214 c0_i32_140
  v215

def k0_dev42 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_485 : BitVec 32 := 4#32
  let v721 : BitVec 32 := Scalar.xori v2 c4_i32_485
  let c1_i32_494 : BitVec 32 := 1#32
  let v722 : BitVec 32 := Scalar.muli v721 c1_i32_494
  let v723 : BitVec 32 := Scalar.addi c0_i32_495 v722
  v723.toNat
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_141 : BitVec 32 := 0#32
  let v216 : BitVec 1 := Scalar.cmpi .ne v7 c0_i32_141
  let true_143 : BitVec 1 := 1#1
  let v218 : BitVec 1 := Scalar.xori v216 true_143
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_142 : BitVec 32 := 1#32
  let v217 : BitVec 1 := Scalar.cmpi .ne v5 c1_i32_142
  let v219 : BitVec 1 := Scalar.andi v218 v217
  let v220 : BitVec 32 := Scalar.extui v219
  let c0_i32_144 : BitVec 32 := 0#32
  let v221 : BitVec 1 := Scalar.cmpi .ne v220 c0_i32_144
  v221

def k0_dev43 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_145 : BitVec 32 := 0#32
  let v222 : BitVec 1 := Scalar.cmpi .ne v9 c0_i32_145
  let true_147 : BitVec 1 := 1#1
  let v224 : BitVec 1 := Scalar.xori v222 true_147
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_146 : BitVec 32 := 0#32
  let v223 : BitVec 1 := Scalar.cmpi .ne v5 c0_i32_146
  let v225 : BitVec 1 := Scalar.andi v224 v223
  let v226 : BitVec 32 := Scalar.extui v225
  let c0_i32_148 : BitVec 32 := 0#32
  let v227 : BitVec 1 := Scalar.cmpi .ne v226 c0_i32_148
  v227

def k0_dev44 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_149 : BitVec 32 := 0#32
  let v228 : BitVec 1 := Scalar.cmpi .ne v5 c0_i32_149
  let true_151 : BitVec 1 := 1#1
  let v230 : BitVec 1 := Scalar.xori v228 true_151
  let c2_i32 : BitVec 32 := 2#32
  let v8 : BitVec 32 := Scalar.shrsi v2 c2_i32
  let c1_i32_4 : BitVec 32 := 1#32
  let v9 : BitVec 32 := Scalar.andi v8 c1_i32_4
  let c0_i32_150 : BitVec 32 := 0#32
  let v229 : BitVec 1 := Scalar.cmpi .ne v9 c0_i32_150
  let v231 : BitVec 1 := Scalar.andi v230 v229
  let v232 : BitVec 32 := Scalar.extui v231
  let c0_i32_152 : BitVec 32 := 0#32
  let v233 : BitVec 1 := Scalar.cmpi .ne v232 c0_i32_152
  v233

def k0_dev45 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_485 : BitVec 32 := 4#32
  let v721 : BitVec 32 := Scalar.xori v2 c4_i32_485
  let c1_i32_494 : BitVec 32 := 1#32
  let v722 : BitVec 32 := Scalar.muli v721 c1_i32_494
  let v723 : BitVec 32 := Scalar.addi c0_i32_495 v722
  v723.toNat
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_153 : BitVec 32 := 1#32
  let v234 : BitVec 1 := Scalar.cmpi .ne v7 c1_i32_153
  let true_155 : BitVec 1 := 1#1
  let v236 : BitVec 1 := Scalar.xori v234 true_155
  let c2_i32 : BitVec 32 := 2#32
  let v8 : BitVec 32 := Scalar.shrsi v2 c2_i32
  let c1_i32_4 : BitVec 32 := 1#32
  let v9 : BitVec 32 := Scalar.andi v8 c1_i32_4
  let c0_i32_154 : BitVec 32 := 0#32
  let v235 : BitVec 1 := Scalar.cmpi .ne v9 c0_i32_154
  let v237 : BitVec 1 := Scalar.andi v236 v235
  let v238 : BitVec 32 := Scalar.extui v237
  let c0_i32_156 : BitVec 32 := 0#32
  let v239 : BitVec 1 := Scalar.cmpi .ne v238 c0_i32_156
  v239

def k0_dev46 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_486 : BitVec 32 := 4#32
  let v721 : BitVec 32 := Scalar.xori v2 c4_i32_486
  let c1_i32_495 : BitVec 32 := 1#32
  let v722 : BitVec 32 := Scalar.muli v721 c1_i32_495
  let v723 : BitVec 32 := Scalar.addi c0_i32_496 v722
  v723.toNat
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_157 : BitVec 32 := 0#32
  let v240 : BitVec 1 := Scalar.cmpi .ne v9 c0_i32_157
  let true_159 : BitVec 1 := 1#1
  let v242 : BitVec 1 := Scalar.xori v240 true_159
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_158 : BitVec 32 := 1#32
  let v241 : BitVec 1 := Scalar.cmpi .ne v5 c1_i32_158
  let v243 : BitVec 1 := Scalar.andi v242 v241
  let v244 : BitVec 32 := Scalar.extui v243
  let c0_i32_160 : BitVec 32 := 0#32
  let v245 : BitVec 1 := Scalar.cmpi .ne v244 c0_i32_160
  v245

def k0_dev47 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_161 : BitVec 32 := 0#32
  let v246 : BitVec 1 := Scalar.cmpi .ne v5 c0_i32_161
  let true_163 : BitVec 1 := 1#1
  let v248 : BitVec 1 := Scalar.xori v246 true_163
  let c2_i32 : BitVec 32 := 2#32
  let v8 : BitVec 32 := Scalar.shrsi v2 c2_i32
  let c1_i32_4 : BitVec 32 := 1#32
  let v9 : BitVec 32 := Scalar.andi v8 c1_i32_4
  let c0_i32_162 : BitVec 32 := 0#32
  let v247 : BitVec 1 := Scalar.cmpi .ne v9 c0_i32_162
  let v249 : BitVec 1 := Scalar.andi v248 v247
  let v250 : BitVec 32 := Scalar.extui v249
  let c0_i32_164 : BitVec 32 := 0#32
  let v251 : BitVec 1 := Scalar.cmpi .ne v250 c0_i32_164
  v251

def k0_dev48 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_485 : BitVec 32 := 4#32
  let v721 : BitVec 32 := Scalar.xori v2 c4_i32_485
  let c1_i32_494 : BitVec 32 := 1#32
  let v722 : BitVec 32 := Scalar.muli v721 c1_i32_494
  let v723 : BitVec 32 := Scalar.addi c0_i32_495 v722
  v723.toNat
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_165 : BitVec 32 := 1#32
  let v252 : BitVec 1 := Scalar.cmpi .ne v7 c1_i32_165
  let true_167 : BitVec 1 := 1#1
  let v254 : BitVec 1 := Scalar.xori v252 true_167
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_166 : BitVec 32 := 1#32
  let v253 : BitVec 1 := Scalar.cmpi .ne v5 c1_i32_166
  let v255 : BitVec 1 := Scalar.andi v254 v253
  let v256 : BitVec 32 := Scalar.extui v255
  let c0_i32_168 : BitVec 32 := 0#32
  let v257 : BitVec 1 := Scalar.cmpi .ne v256 c0_i32_168
  v257

def k0_dev49 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_169 : BitVec 32 := 0#32
  let v258 : BitVec 1 := Scalar.cmpi .ne v9 c0_i32_169
  let true_171 : BitVec 1 := 1#1
  let v260 : BitVec 1 := Scalar.xori v258 true_171
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_170 : BitVec 32 := 0#32
  let v259 : BitVec 1 := Scalar.cmpi .ne v5 c0_i32_170
  let v261 : BitVec 1 := Scalar.andi v260 v259
  let v262 : BitVec 32 := Scalar.extui v261
  let c0_i32_172 : BitVec 32 := 0#32
  let v263 : BitVec 1 := Scalar.cmpi .ne v262 c0_i32_172
  v263

def k0_dev50 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_486 : BitVec 32 := 1#32
  let v721 : BitVec 32 := Scalar.xori v2 c1_i32_486
  let c1_i32_495 : BitVec 32 := 1#32
  let v722 : BitVec 32 := Scalar.muli v721 c1_i32_495
  let v723 : BitVec 32 := Scalar.addi c0_i32_496 v722
  v723.toNat
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_173 : BitVec 32 := 0#32
  let v264 : BitVec 1 := Scalar.cmpi .ne v5 c0_i32_173
  let true_175 : BitVec 1 := 1#1
  let v266 : BitVec 1 := Scalar.xori v264 true_175
  let c1_i32_2 : BitVec 32 := 1#32
  let v6 : BitVec 32 := Scalar.shrsi v2 c1_i32_2
  let c1_i32_3 : BitVec 32 := 1#32
  let v7 : BitVec 32 := Scalar.andi v6 c1_i32_3
  let c0_i32_174 : BitVec 32 := 0#32
  let v265 : BitVec 1 := Scalar.cmpi .ne v7 c0_i32_174
  let v267 : BitVec 1 := Scalar.andi v266 v265
  let v268 : BitVec 32 := Scalar.extui v267
  let c0_i32_176 : BitVec 32 := 0#32
  let v269 : BitVec 1 := Scalar.cmpi .ne v268 c0_i32_176
  v269

def k0_dev51 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_486 : BitVec 32 := 3#32
  let v721 : BitVec 32 := Scalar.xori v2 c3_i32_486
  let c1_i32_495 : BitVec 32 := 1#32
  let v722 : BitVec 32 := Scalar.muli v721 c1_i32_495
  let v723 : BitVec 32 := Scalar.addi c0_i32_496 v722
  v723.toNat
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_177 : BitVec 32 := 1#32
  let v270 : BitVec 1 := Scalar.cmpi .ne v7 c1_i32_177
  let true_179 : BitVec 1 := 1#1
  let v272 : BitVec 1 := Scalar.xori v270 true_179
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_178 : BitVec 32 := 0#32
  let v271 : BitVec 1 := Scalar.cmpi .ne v5 c0_i32_178
  let v273 : BitVec 1 := Scalar.andi v272 v271
  let v274 : BitVec 32 := Scalar.extui v273
  let c0_i32_180 : BitVec 32 := 0#32
  let v275 : BitVec 1 := Scalar.cmpi .ne v274 c0_i32_180
  v275

def k0_dev52 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_181 : BitVec 32 := 1#32
  let v276 : BitVec 1 := Scalar.cmpi .ne v9 c1_i32_181
  let true_183 : BitVec 1 := 1#1
  let v278 : BitVec 1 := Scalar.xori v276 true_183
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_182 : BitVec 32 := 0#32
  let v277 : BitVec 1 := Scalar.cmpi .ne v5 c0_i32_182
  let v279 : BitVec 1 := Scalar.andi v278 v277
  let v280 : BitVec 32 := Scalar.extui v279
  let c0_i32_184 : BitVec 32 := 0#32
  let v281 : BitVec 1 := Scalar.cmpi .ne v280 c0_i32_184
  v281

def k0_dev53 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_185 : BitVec 32 := 1#32
  let v282 : BitVec 1 := Scalar.cmpi .ne v5 c1_i32_185
  let true_187 : BitVec 1 := 1#1
  let v284 : BitVec 1 := Scalar.xori v282 true_187
  let c2_i32 : BitVec 32 := 2#32
  let v8 : BitVec 32 := Scalar.shrsi v2 c2_i32
  let c1_i32_4 : BitVec 32 := 1#32
  let v9 : BitVec 32 := Scalar.andi v8 c1_i32_4
  let c1_i32_186 : BitVec 32 := 1#32
  let v283 : BitVec 1 := Scalar.cmpi .ne v9 c1_i32_186
  let v285 : BitVec 1 := Scalar.andi v284 v283
  let v286 : BitVec 32 := Scalar.extui v285
  let c0_i32_188 : BitVec 32 := 0#32
  let v287 : BitVec 1 := Scalar.cmpi .ne v286 c0_i32_188
  v287

def k0_dev54 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_485 : BitVec 32 := 4#32
  let v721 : BitVec 32 := Scalar.xori v2 c4_i32_485
  let c1_i32_494 : BitVec 32 := 1#32
  let v722 : BitVec 32 := Scalar.muli v721 c1_i32_494
  let v723 : BitVec 32 := Scalar.addi c0_i32_495 v722
  v723.toNat
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_189 : BitVec 32 := 0#32
  let v288 : BitVec 1 := Scalar.cmpi .ne v7 c0_i32_189
  let true_191 : BitVec 1 := 1#1
  let v290 : BitVec 1 := Scalar.xori v288 true_191
  let c2_i32 : BitVec 32 := 2#32
  let v8 : BitVec 32 := Scalar.shrsi v2 c2_i32
  let c1_i32_4 : BitVec 32 := 1#32
  let v9 : BitVec 32 := Scalar.andi v8 c1_i32_4
  let c1_i32_190 : BitVec 32 := 1#32
  let v289 : BitVec 1 := Scalar.cmpi .ne v9 c1_i32_190
  let v291 : BitVec 1 := Scalar.andi v290 v289
  let v292 : BitVec 32 := Scalar.extui v291
  let c0_i32_192 : BitVec 32 := 0#32
  let v293 : BitVec 1 := Scalar.cmpi .ne v292 c0_i32_192
  v293

def k0_dev55 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_485 : BitVec 32 := 4#32
  let v721 : BitVec 32 := Scalar.xori v2 c4_i32_485
  let c1_i32_494 : BitVec 32 := 1#32
  let v722 : BitVec 32 := Scalar.muli v721 c1_i32_494
  let v723 : BitVec 32 := Scalar.addi c0_i32_495 v722
  v723.toNat
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_193 : BitVec 32 := 1#32
  let v294 : BitVec 1 := Scalar.cmpi .ne v9 c1_i32_193
  let true_195 : BitVec 1 := 1#1
  let v296 : BitVec 1 := Scalar.xori v294 true_195
  let c1_i32_2 : BitVec 32 := 1#32
  let v6 : BitVec 32 := Scalar.shrsi v2 c1_i32_2
  let c1_i32_3 : BitVec 32 := 1#32
  let v7 : BitVec 32 := Scalar.andi v6 c1_i32_3
  let c0_i32_194 : BitVec 32 := 0#32
  let v295 : BitVec 1 := Scalar.cmpi .ne v7 c0_i32_194
  let v297 : BitVec 1 := Scalar.andi v296 v295
  let v298 : BitVec 32 := Scalar.extui v297
  let c0_i32_196 : BitVec 32 := 0#32
  let v299 : BitVec 1 := Scalar.cmpi .ne v298 c0_i32_196
  v299

def k0_dev56 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_486 : BitVec 32 := 3#32
  let v721 : BitVec 32 := Scalar.xori v2 c3_i32_486
  let c1_i32_495 : BitVec 32 := 1#32
  let v722 : BitVec 32 := Scalar.muli v721 c1_i32_495
  let v723 : BitVec 32 := Scalar.addi c0_i32_496 v722
  v723.toNat
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_197 : BitVec 32 := 1#32
  let v300 : BitVec 1 := Scalar.cmpi .ne v5 c1_i32_197
  let true_199 : BitVec 1 := 1#1
  let v302 : BitVec 1 := Scalar.xori v300 true_199
  let c1_i32_2 : BitVec 32 := 1#32
  let v6 : BitVec 32 := Scalar.shrsi v2 c1_i32_2
  let c1_i32_3 : BitVec 32 := 1#32
  let v7 : BitVec 32 := Scalar.andi v6 c1_i32_3
  let c1_i32_198 : BitVec 32 := 1#32
  let v301 : BitVec 1 := Scalar.cmpi .ne v7 c1_i32_198
  let v303 : BitVec 1 := Scalar.andi v302 v301
  let v304 : BitVec 32 := Scalar.extui v303
  let c0_i32_200 : BitVec 32 := 0#32
  let v305 : BitVec 1 := Scalar.cmpi .ne v304 c0_i32_200
  v305

def k0_dev57 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_486 : BitVec 32 := 3#32
  let v721 : BitVec 32 := Scalar.xori v2 c3_i32_486
  let c1_i32_495 : BitVec 32 := 1#32
  let v722 : BitVec 32 := Scalar.muli v721 c1_i32_495
  let v723 : BitVec 32 := Scalar.addi c0_i32_496 v722
  v723.toNat
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_201 : BitVec 32 := 0#32
  let v306 : BitVec 1 := Scalar.cmpi .ne v7 c0_i32_201
  let true_203 : BitVec 1 := 1#1
  let v308 : BitVec 1 := Scalar.xori v306 true_203
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_202 : BitVec 32 := 0#32
  let v307 : BitVec 1 := Scalar.cmpi .ne v5 c0_i32_202
  let v309 : BitVec 1 := Scalar.andi v308 v307
  let v310 : BitVec 32 := Scalar.extui v309
  let c0_i32_204 : BitVec 32 := 0#32
  let v311 : BitVec 1 := Scalar.cmpi .ne v310 c0_i32_204
  v311

def k0_dev58 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_205 : BitVec 32 := 1#32
  let v312 : BitVec 1 := Scalar.cmpi .ne v9 c1_i32_205
  let true_207 : BitVec 1 := 1#1
  let v314 : BitVec 1 := Scalar.xori v312 true_207
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_206 : BitVec 32 := 1#32
  let v313 : BitVec 1 := Scalar.cmpi .ne v5 c1_i32_206
  let v315 : BitVec 1 := Scalar.andi v314 v313
  let v316 : BitVec 32 := Scalar.extui v315
  let c0_i32_208 : BitVec 32 := 0#32
  let v317 : BitVec 1 := Scalar.cmpi .ne v316 c0_i32_208
  v317

def k0_dev59 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond57 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_209 : BitVec 32 := 1#32
  let v318 : BitVec 1 := Scalar.cmpi .ne v5 c1_i32_209
  let true_211 : BitVec 1 := 1#1
  let v320 : BitVec 1 := Scalar.xori v318 true_211
  let c1_i32_2 : BitVec 32 := 1#32
  let v6 : BitVec 32 := Scalar.shrsi v2 c1_i32_2
  let c1_i32_3 : BitVec 32 := 1#32
  let v7 : BitVec 32 := Scalar.andi v6 c1_i32_3
  let c1_i32_210 : BitVec 32 := 1#32
  let v319 : BitVec 1 := Scalar.cmpi .ne v7 c1_i32_210
  let v321 : BitVec 1 := Scalar.andi v320 v319
  let v322 : BitVec 32 := Scalar.extui v321
  let c0_i32_212 : BitVec 32 := 0#32
  let v323 : BitVec 1 := Scalar.cmpi .ne v322 c0_i32_212
  v323

def k0_dev60 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_485 : BitVec 32 := 3#32
  let v721 : BitVec 32 := Scalar.xori v2 c3_i32_485
  let c1_i32_494 : BitVec 32 := 1#32
  let v722 : BitVec 32 := Scalar.muli v721 c1_i32_494
  let v723 : BitVec 32 := Scalar.addi c0_i32_495 v722
  v723.toNat
def k0_cond58 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_213 : BitVec 32 := 0#32
  let v324 : BitVec 1 := Scalar.cmpi .ne v7 c0_i32_213
  let true_215 : BitVec 1 := 1#1
  let v326 : BitVec 1 := Scalar.xori v324 true_215
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_214 : BitVec 32 := 1#32
  let v325 : BitVec 1 := Scalar.cmpi .ne v5 c1_i32_214
  let v327 : BitVec 1 := Scalar.andi v326 v325
  let v328 : BitVec 32 := Scalar.extui v327
  let c0_i32_216 : BitVec 32 := 0#32
  let v329 : BitVec 1 := Scalar.cmpi .ne v328 c0_i32_216
  v329

def k0_dev61 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond59 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_217 : BitVec 32 := 1#32
  let v330 : BitVec 1 := Scalar.cmpi .ne v9 c1_i32_217
  let true_219 : BitVec 1 := 1#1
  let v332 : BitVec 1 := Scalar.xori v330 true_219
  let c1_i32_2 : BitVec 32 := 1#32
  let v6 : BitVec 32 := Scalar.shrsi v2 c1_i32_2
  let c1_i32_3 : BitVec 32 := 1#32
  let v7 : BitVec 32 := Scalar.andi v6 c1_i32_3
  let c1_i32_218 : BitVec 32 := 1#32
  let v331 : BitVec 1 := Scalar.cmpi .ne v7 c1_i32_218
  let v333 : BitVec 1 := Scalar.andi v332 v331
  let v334 : BitVec 32 := Scalar.extui v333
  let c0_i32_220 : BitVec 32 := 0#32
  let v335 : BitVec 1 := Scalar.cmpi .ne v334 c0_i32_220
  v335

def k0_dev62 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_485 : BitVec 32 := 3#32
  let v721 : BitVec 32 := Scalar.xori v2 c3_i32_485
  let c1_i32_494 : BitVec 32 := 1#32
  let v722 : BitVec 32 := Scalar.muli v721 c1_i32_494
  let v723 : BitVec 32 := Scalar.addi c0_i32_495 v722
  v723.toNat
def k0_cond60 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_221 : BitVec 32 := 0#32
  let v336 : BitVec 1 := Scalar.cmpi .ne v5 c0_i32_221
  let true_223 : BitVec 1 := 1#1
  let v338 : BitVec 1 := Scalar.xori v336 true_223
  let c1_i32_2 : BitVec 32 := 1#32
  let v6 : BitVec 32 := Scalar.shrsi v2 c1_i32_2
  let c1_i32_3 : BitVec 32 := 1#32
  let v7 : BitVec 32 := Scalar.andi v6 c1_i32_3
  let c1_i32_222 : BitVec 32 := 1#32
  let v337 : BitVec 1 := Scalar.cmpi .ne v7 c1_i32_222
  let v339 : BitVec 1 := Scalar.andi v338 v337
  let v340 : BitVec 32 := Scalar.extui v339
  let c0_i32_224 : BitVec 32 := 0#32
  let v341 : BitVec 1 := Scalar.cmpi .ne v340 c0_i32_224
  v341

def k0_dev63 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_485 : BitVec 32 := 3#32
  let v721 : BitVec 32 := Scalar.xori v2 c3_i32_485
  let c1_i32_494 : BitVec 32 := 1#32
  let v722 : BitVec 32 := Scalar.muli v721 c1_i32_494
  let v723 : BitVec 32 := Scalar.addi c0_i32_495 v722
  v723.toNat
def k0_cond61 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_225 : BitVec 32 := 1#32
  let v342 : BitVec 1 := Scalar.cmpi .ne v7 c1_i32_225
  let true_227 : BitVec 1 := 1#1
  let v344 : BitVec 1 := Scalar.xori v342 true_227
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_226 : BitVec 32 := 0#32
  let v343 : BitVec 1 := Scalar.cmpi .ne v5 c0_i32_226
  let v345 : BitVec 1 := Scalar.andi v344 v343
  let v346 : BitVec 32 := Scalar.extui v345
  let c0_i32_228 : BitVec 32 := 0#32
  let v347 : BitVec 1 := Scalar.cmpi .ne v346 c0_i32_228
  v347

def k0_dev64 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_486 : BitVec 32 := 1#32
  let v721 : BitVec 32 := Scalar.xori v2 c1_i32_486
  let c1_i32_495 : BitVec 32 := 1#32
  let v722 : BitVec 32 := Scalar.muli v721 c1_i32_495
  let v723 : BitVec 32 := Scalar.addi c0_i32_496 v722
  v723.toNat
def k0_cond62 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_229 : BitVec 32 := 1#32
  let v348 : BitVec 1 := Scalar.cmpi .ne v9 c1_i32_229
  let true_231 : BitVec 1 := 1#1
  let v350 : BitVec 1 := Scalar.xori v348 true_231
  let c1_i32_2 : BitVec 32 := 1#32
  let v6 : BitVec 32 := Scalar.shrsi v2 c1_i32_2
  let c1_i32_3 : BitVec 32 := 1#32
  let v7 : BitVec 32 := Scalar.andi v6 c1_i32_3
  let c1_i32_230 : BitVec 32 := 1#32
  let v349 : BitVec 1 := Scalar.cmpi .ne v7 c1_i32_230
  let v351 : BitVec 1 := Scalar.andi v350 v349
  let v352 : BitVec 32 := Scalar.extui v351
  let c0_i32_232 : BitVec 32 := 0#32
  let v353 : BitVec 1 := Scalar.cmpi .ne v352 c0_i32_232
  v353

def k0_dev65 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_485 : BitVec 32 := 3#32
  let v721 : BitVec 32 := Scalar.xori v2 c3_i32_485
  let c1_i32_494 : BitVec 32 := 1#32
  let v722 : BitVec 32 := Scalar.muli v721 c1_i32_494
  let v723 : BitVec 32 := Scalar.addi c0_i32_495 v722
  v723.toNat
def k0_cond63 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_233 : BitVec 32 := 1#32
  let v354 : BitVec 1 := Scalar.cmpi .ne v7 c1_i32_233
  let true_235 : BitVec 1 := 1#1
  let v356 : BitVec 1 := Scalar.xori v354 true_235
  let c2_i32 : BitVec 32 := 2#32
  let v8 : BitVec 32 := Scalar.shrsi v2 c2_i32
  let c1_i32_4 : BitVec 32 := 1#32
  let v9 : BitVec 32 := Scalar.andi v8 c1_i32_4
  let c1_i32_234 : BitVec 32 := 1#32
  let v355 : BitVec 1 := Scalar.cmpi .ne v9 c1_i32_234
  let v357 : BitVec 1 := Scalar.andi v356 v355
  let v358 : BitVec 32 := Scalar.extui v357
  let c0_i32_236 : BitVec 32 := 0#32
  let v359 : BitVec 1 := Scalar.cmpi .ne v358 c0_i32_236
  v359

def k0_dev66 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_485 : BitVec 32 := 4#32
  let v721 : BitVec 32 := Scalar.xori v2 c4_i32_485
  let c1_i32_494 : BitVec 32 := 1#32
  let v722 : BitVec 32 := Scalar.muli v721 c1_i32_494
  let v723 : BitVec 32 := Scalar.addi c0_i32_495 v722
  v723.toNat
def k0_cond64 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_237 : BitVec 32 := 1#32
  let v360 : BitVec 1 := Scalar.cmpi .ne v9 c1_i32_237
  let true_239 : BitVec 1 := 1#1
  let v362 : BitVec 1 := Scalar.xori v360 true_239
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_238 : BitVec 32 := 0#32
  let v361 : BitVec 1 := Scalar.cmpi .ne v5 c0_i32_238
  let v363 : BitVec 1 := Scalar.andi v362 v361
  let v364 : BitVec 32 := Scalar.extui v363
  let c0_i32_240 : BitVec 32 := 0#32
  let v365 : BitVec 1 := Scalar.cmpi .ne v364 c0_i32_240
  v365

def k0_dev67 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_485 : BitVec 32 := 1#32
  let v721 : BitVec 32 := Scalar.xori v2 c1_i32_485
  let c1_i32_494 : BitVec 32 := 1#32
  let v722 : BitVec 32 := Scalar.muli v721 c1_i32_494
  let v723 : BitVec 32 := Scalar.addi c0_i32_495 v722
  v723.toNat
def k0_cond65 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_241 : BitVec 32 := 0#32
  let v366 : BitVec 1 := Scalar.cmpi .ne v9 c0_i32_241
  let true_244 : BitVec 1 := 1#1
  let v369 : BitVec 1 := Scalar.xori v366 true_244
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_242 : BitVec 32 := 0#32
  let v367 : BitVec 1 := Scalar.cmpi .ne v5 c0_i32_242
  let true_245 : BitVec 1 := 1#1
  let v370 : BitVec 1 := Scalar.xori v367 true_245
  let c1_i32_2 : BitVec 32 := 1#32
  let v6 : BitVec 32 := Scalar.shrsi v2 c1_i32_2
  let c1_i32_3 : BitVec 32 := 1#32
  let v7 : BitVec 32 := Scalar.andi v6 c1_i32_3
  let c0_i32_243 : BitVec 32 := 0#32
  let v368 : BitVec 1 := Scalar.cmpi .ne v7 c0_i32_243
  let v371 : BitVec 1 := Scalar.andi v370 v368
  let v372 : BitVec 1 := Scalar.andi v369 v371
  let v373 : BitVec 32 := Scalar.extui v372
  let c0_i32_246 : BitVec 32 := 0#32
  let v374 : BitVec 1 := Scalar.cmpi .ne v373 c0_i32_246
  v374

def k0_dev68 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_504 : BitVec 32 := 3#32
  let v733 : BitVec 32 := Scalar.xori v2 c3_i32_504
  let c1_i32_513 : BitVec 32 := 1#32
  let v734 : BitVec 32 := Scalar.muli v733 c1_i32_513
  let v735 : BitVec 32 := Scalar.addi c0_i32_514 v734
  v735.toNat
def k0_cond66 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_247 : BitVec 32 := 0#32
  let v375 : BitVec 1 := Scalar.cmpi .ne v9 c0_i32_247
  let true_250 : BitVec 1 := 1#1
  let v378 : BitVec 1 := Scalar.xori v375 true_250
  let c1_i32_2 : BitVec 32 := 1#32
  let v6 : BitVec 32 := Scalar.shrsi v2 c1_i32_2
  let c1_i32_3 : BitVec 32 := 1#32
  let v7 : BitVec 32 := Scalar.andi v6 c1_i32_3
  let c0_i32_248 : BitVec 32 := 0#32
  let v376 : BitVec 1 := Scalar.cmpi .ne v7 c0_i32_248
  let true_251 : BitVec 1 := 1#1
  let v379 : BitVec 1 := Scalar.xori v376 true_251
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_249 : BitVec 32 := 0#32
  let v377 : BitVec 1 := Scalar.cmpi .ne v5 c0_i32_249
  let v380 : BitVec 1 := Scalar.andi v379 v377
  let v381 : BitVec 1 := Scalar.andi v378 v380
  let v382 : BitVec 32 := Scalar.extui v381
  let c0_i32_252 : BitVec 32 := 0#32
  let v383 : BitVec 1 := Scalar.cmpi .ne v382 c0_i32_252
  v383

def k0_dev69 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_503 : BitVec 32 := 1#32
  let v733 : BitVec 32 := Scalar.xori v2 c1_i32_503
  let c1_i32_512 : BitVec 32 := 1#32
  let v734 : BitVec 32 := Scalar.muli v733 c1_i32_512
  let v735 : BitVec 32 := Scalar.addi c0_i32_513 v734
  v735.toNat
def k0_cond67 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_253 : BitVec 32 := 1#32
  let v384 : BitVec 1 := Scalar.cmpi .ne v5 c1_i32_253
  let true_256 : BitVec 1 := 1#1
  let v387 : BitVec 1 := Scalar.xori v384 true_256
  let c2_i32 : BitVec 32 := 2#32
  let v8 : BitVec 32 := Scalar.shrsi v2 c2_i32
  let c1_i32_4 : BitVec 32 := 1#32
  let v9 : BitVec 32 := Scalar.andi v8 c1_i32_4
  let c0_i32_254 : BitVec 32 := 0#32
  let v385 : BitVec 1 := Scalar.cmpi .ne v9 c0_i32_254
  let true_257 : BitVec 1 := 1#1
  let v388 : BitVec 1 := Scalar.xori v385 true_257
  let c1_i32_2 : BitVec 32 := 1#32
  let v6 : BitVec 32 := Scalar.shrsi v2 c1_i32_2
  let c1_i32_3 : BitVec 32 := 1#32
  let v7 : BitVec 32 := Scalar.andi v6 c1_i32_3
  let c0_i32_255 : BitVec 32 := 0#32
  let v386 : BitVec 1 := Scalar.cmpi .ne v7 c0_i32_255
  let v389 : BitVec 1 := Scalar.andi v388 v386
  let v390 : BitVec 1 := Scalar.andi v387 v389
  let v391 : BitVec 32 := Scalar.extui v390
  let c0_i32_258 : BitVec 32 := 0#32
  let v392 : BitVec 1 := Scalar.cmpi .ne v391 c0_i32_258
  v392

def k0_dev70 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_504 : BitVec 32 := 3#32
  let v733 : BitVec 32 := Scalar.xori v2 c3_i32_504
  let c1_i32_513 : BitVec 32 := 1#32
  let v734 : BitVec 32 := Scalar.muli v733 c1_i32_513
  let v735 : BitVec 32 := Scalar.addi c0_i32_514 v734
  v735.toNat
def k0_cond68 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_259 : BitVec 32 := 0#32
  let v393 : BitVec 1 := Scalar.cmpi .ne v9 c0_i32_259
  let true_262 : BitVec 1 := 1#1
  let v396 : BitVec 1 := Scalar.xori v393 true_262
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_260 : BitVec 32 := 0#32
  let v394 : BitVec 1 := Scalar.cmpi .ne v5 c0_i32_260
  let true_263 : BitVec 1 := 1#1
  let v397 : BitVec 1 := Scalar.xori v394 true_263
  let c1_i32_2 : BitVec 32 := 1#32
  let v6 : BitVec 32 := Scalar.shrsi v2 c1_i32_2
  let c1_i32_3 : BitVec 32 := 1#32
  let v7 : BitVec 32 := Scalar.andi v6 c1_i32_3
  let c0_i32_261 : BitVec 32 := 0#32
  let v395 : BitVec 1 := Scalar.cmpi .ne v7 c0_i32_261
  let v398 : BitVec 1 := Scalar.andi v397 v395
  let v399 : BitVec 1 := Scalar.andi v396 v398
  let v400 : BitVec 32 := Scalar.extui v399
  let c0_i32_264 : BitVec 32 := 0#32
  let v401 : BitVec 1 := Scalar.cmpi .ne v400 c0_i32_264
  v401

def k0_dev71 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_503 : BitVec 32 := 3#32
  let v733 : BitVec 32 := Scalar.xori v2 c3_i32_503
  let c1_i32_512 : BitVec 32 := 1#32
  let v734 : BitVec 32 := Scalar.muli v733 c1_i32_512
  let v735 : BitVec 32 := Scalar.addi c0_i32_513 v734
  v735.toNat
def k0_cond69 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_265 : BitVec 32 := 1#32
  let v402 : BitVec 1 := Scalar.cmpi .ne v5 c1_i32_265
  let true_268 : BitVec 1 := 1#1
  let v405 : BitVec 1 := Scalar.xori v402 true_268
  let c1_i32_2 : BitVec 32 := 1#32
  let v6 : BitVec 32 := Scalar.shrsi v2 c1_i32_2
  let c1_i32_3 : BitVec 32 := 1#32
  let v7 : BitVec 32 := Scalar.andi v6 c1_i32_3
  let c0_i32_266 : BitVec 32 := 0#32
  let v403 : BitVec 1 := Scalar.cmpi .ne v7 c0_i32_266
  let true_269 : BitVec 1 := 1#1
  let v406 : BitVec 1 := Scalar.xori v403 true_269
  let c2_i32 : BitVec 32 := 2#32
  let v8 : BitVec 32 := Scalar.shrsi v2 c2_i32
  let c1_i32_4 : BitVec 32 := 1#32
  let v9 : BitVec 32 := Scalar.andi v8 c1_i32_4
  let c0_i32_267 : BitVec 32 := 0#32
  let v404 : BitVec 1 := Scalar.cmpi .ne v9 c0_i32_267
  let v407 : BitVec 1 := Scalar.andi v406 v404
  let v408 : BitVec 1 := Scalar.andi v405 v407
  let v409 : BitVec 32 := Scalar.extui v408
  let c0_i32_270 : BitVec 32 := 0#32
  let v410 : BitVec 1 := Scalar.cmpi .ne v409 c0_i32_270
  v410

def k0_dev72 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v733 : BitVec 32 := Scalar.xori v2 c4_i32_503
  let c1_i32_512 : BitVec 32 := 1#32
  let v734 : BitVec 32 := Scalar.muli v733 c1_i32_512
  let v735 : BitVec 32 := Scalar.addi c0_i32_513 v734
  v735.toNat
def k0_cond70 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_271 : BitVec 32 := 0#32
  let v411 : BitVec 1 := Scalar.cmpi .ne v7 c0_i32_271
  let true_274 : BitVec 1 := 1#1
  let v414 : BitVec 1 := Scalar.xori v411 true_274
  let c2_i32 : BitVec 32 := 2#32
  let v8 : BitVec 32 := Scalar.shrsi v2 c2_i32
  let c1_i32_4 : BitVec 32 := 1#32
  let v9 : BitVec 32 := Scalar.andi v8 c1_i32_4
  let c0_i32_272 : BitVec 32 := 0#32
  let v412 : BitVec 1 := Scalar.cmpi .ne v9 c0_i32_272
  let true_275 : BitVec 1 := 1#1
  let v415 : BitVec 1 := Scalar.xori v412 true_275
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_273 : BitVec 32 := 1#32
  let v413 : BitVec 1 := Scalar.cmpi .ne v5 c1_i32_273
  let v416 : BitVec 1 := Scalar.andi v415 v413
  let v417 : BitVec 1 := Scalar.andi v414 v416
  let v418 : BitVec 32 := Scalar.extui v417
  let c0_i32_276 : BitVec 32 := 0#32
  let v419 : BitVec 1 := Scalar.cmpi .ne v418 c0_i32_276
  v419

def k0_dev73 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_503 : BitVec 32 := 1#32
  let v733 : BitVec 32 := Scalar.xori v2 c1_i32_503
  let c1_i32_512 : BitVec 32 := 1#32
  let v734 : BitVec 32 := Scalar.muli v733 c1_i32_512
  let v735 : BitVec 32 := Scalar.addi c0_i32_513 v734
  v735.toNat
def k0_cond71 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_277 : BitVec 32 := 0#32
  let v420 : BitVec 1 := Scalar.cmpi .ne v7 c0_i32_277
  let true_280 : BitVec 1 := 1#1
  let v423 : BitVec 1 := Scalar.xori v420 true_280
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_278 : BitVec 32 := 0#32
  let v421 : BitVec 1 := Scalar.cmpi .ne v5 c0_i32_278
  let true_281 : BitVec 1 := 1#1
  let v424 : BitVec 1 := Scalar.xori v421 true_281
  let c2_i32 : BitVec 32 := 2#32
  let v8 : BitVec 32 := Scalar.shrsi v2 c2_i32
  let c1_i32_4 : BitVec 32 := 1#32
  let v9 : BitVec 32 := Scalar.andi v8 c1_i32_4
  let c0_i32_279 : BitVec 32 := 0#32
  let v422 : BitVec 1 := Scalar.cmpi .ne v9 c0_i32_279
  let v425 : BitVec 1 := Scalar.andi v424 v422
  let v426 : BitVec 1 := Scalar.andi v423 v425
  let v427 : BitVec 32 := Scalar.extui v426
  let c0_i32_282 : BitVec 32 := 0#32
  let v428 : BitVec 1 := Scalar.cmpi .ne v427 c0_i32_282
  v428

def k0_dev74 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v733 : BitVec 32 := Scalar.xori v2 c4_i32_503
  let c1_i32_512 : BitVec 32 := 1#32
  let v734 : BitVec 32 := Scalar.muli v733 c1_i32_512
  let v735 : BitVec 32 := Scalar.addi c0_i32_513 v734
  v735.toNat
def k0_cond72 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_283 : BitVec 32 := 0#32
  let v429 : BitVec 1 := Scalar.cmpi .ne v5 c0_i32_283
  let true_286 : BitVec 1 := 1#1
  let v432 : BitVec 1 := Scalar.xori v429 true_286
  let c1_i32_2 : BitVec 32 := 1#32
  let v6 : BitVec 32 := Scalar.shrsi v2 c1_i32_2
  let c1_i32_3 : BitVec 32 := 1#32
  let v7 : BitVec 32 := Scalar.andi v6 c1_i32_3
  let c0_i32_284 : BitVec 32 := 0#32
  let v430 : BitVec 1 := Scalar.cmpi .ne v7 c0_i32_284
  let true_287 : BitVec 1 := 1#1
  let v433 : BitVec 1 := Scalar.xori v430 true_287
  let c2_i32 : BitVec 32 := 2#32
  let v8 : BitVec 32 := Scalar.shrsi v2 c2_i32
  let c1_i32_4 : BitVec 32 := 1#32
  let v9 : BitVec 32 := Scalar.andi v8 c1_i32_4
  let c1_i32_285 : BitVec 32 := 1#32
  let v431 : BitVec 1 := Scalar.cmpi .ne v9 c1_i32_285
  let v434 : BitVec 1 := Scalar.andi v433 v431
  let v435 : BitVec 1 := Scalar.andi v432 v434
  let v436 : BitVec 32 := Scalar.extui v435
  let c0_i32_288 : BitVec 32 := 0#32
  let v437 : BitVec 1 := Scalar.cmpi .ne v436 c0_i32_288
  v437

def k0_dev75 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_504 : BitVec 32 := 4#32
  let v733 : BitVec 32 := Scalar.xori v2 c4_i32_504
  let c1_i32_513 : BitVec 32 := 1#32
  let v734 : BitVec 32 := Scalar.muli v733 c1_i32_513
  let v735 : BitVec 32 := Scalar.addi c0_i32_514 v734
  v735.toNat
def k0_cond73 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_289 : BitVec 32 := 1#32
  let v438 : BitVec 1 := Scalar.cmpi .ne v7 c1_i32_289
  let true_292 : BitVec 1 := 1#1
  let v441 : BitVec 1 := Scalar.xori v438 true_292
  let c2_i32 : BitVec 32 := 2#32
  let v8 : BitVec 32 := Scalar.shrsi v2 c2_i32
  let c1_i32_4 : BitVec 32 := 1#32
  let v9 : BitVec 32 := Scalar.andi v8 c1_i32_4
  let c0_i32_290 : BitVec 32 := 0#32
  let v439 : BitVec 1 := Scalar.cmpi .ne v9 c0_i32_290
  let true_293 : BitVec 1 := 1#1
  let v442 : BitVec 1 := Scalar.xori v439 true_293
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_291 : BitVec 32 := 1#32
  let v440 : BitVec 1 := Scalar.cmpi .ne v5 c1_i32_291
  let v443 : BitVec 1 := Scalar.andi v442 v440
  let v444 : BitVec 1 := Scalar.andi v441 v443
  let v445 : BitVec 32 := Scalar.extui v444
  let c0_i32_294 : BitVec 32 := 0#32
  let v446 : BitVec 1 := Scalar.cmpi .ne v445 c0_i32_294
  v446

def k0_dev76 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_504 : BitVec 32 := 1#32
  let v733 : BitVec 32 := Scalar.xori v2 c1_i32_504
  let c1_i32_513 : BitVec 32 := 1#32
  let v734 : BitVec 32 := Scalar.muli v733 c1_i32_513
  let v735 : BitVec 32 := Scalar.addi c0_i32_514 v734
  v735.toNat
def k0_cond74 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_295 : BitVec 32 := 0#32
  let v447 : BitVec 1 := Scalar.cmpi .ne v7 c0_i32_295
  let true_298 : BitVec 1 := 1#1
  let v450 : BitVec 1 := Scalar.xori v447 true_298
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_296 : BitVec 32 := 1#32
  let v448 : BitVec 1 := Scalar.cmpi .ne v5 c1_i32_296
  let true_299 : BitVec 1 := 1#1
  let v451 : BitVec 1 := Scalar.xori v448 true_299
  let c2_i32 : BitVec 32 := 2#32
  let v8 : BitVec 32 := Scalar.shrsi v2 c2_i32
  let c1_i32_4 : BitVec 32 := 1#32
  let v9 : BitVec 32 := Scalar.andi v8 c1_i32_4
  let c0_i32_297 : BitVec 32 := 0#32
  let v449 : BitVec 1 := Scalar.cmpi .ne v9 c0_i32_297
  let v452 : BitVec 1 := Scalar.andi v451 v449
  let v453 : BitVec 1 := Scalar.andi v450 v452
  let v454 : BitVec 32 := Scalar.extui v453
  let c0_i32_300 : BitVec 32 := 0#32
  let v455 : BitVec 1 := Scalar.cmpi .ne v454 c0_i32_300
  v455

def k0_dev77 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v733 : BitVec 32 := Scalar.xori v2 c4_i32_503
  let c1_i32_512 : BitVec 32 := 1#32
  let v734 : BitVec 32 := Scalar.muli v733 c1_i32_512
  let v735 : BitVec 32 := Scalar.addi c0_i32_513 v734
  v735.toNat
def k0_cond75 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_301 : BitVec 32 := 1#32
  let v456 : BitVec 1 := Scalar.cmpi .ne v9 c1_i32_301
  let true_304 : BitVec 1 := 1#1
  let v459 : BitVec 1 := Scalar.xori v456 true_304
  let c1_i32_2 : BitVec 32 := 1#32
  let v6 : BitVec 32 := Scalar.shrsi v2 c1_i32_2
  let c1_i32_3 : BitVec 32 := 1#32
  let v7 : BitVec 32 := Scalar.andi v6 c1_i32_3
  let c0_i32_302 : BitVec 32 := 0#32
  let v457 : BitVec 1 := Scalar.cmpi .ne v7 c0_i32_302
  let true_305 : BitVec 1 := 1#1
  let v460 : BitVec 1 := Scalar.xori v457 true_305
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_303 : BitVec 32 := 1#32
  let v458 : BitVec 1 := Scalar.cmpi .ne v5 c1_i32_303
  let v461 : BitVec 1 := Scalar.andi v460 v458
  let v462 : BitVec 1 := Scalar.andi v459 v461
  let v463 : BitVec 32 := Scalar.extui v462
  let c0_i32_306 : BitVec 32 := 0#32
  let v464 : BitVec 1 := Scalar.cmpi .ne v463 c0_i32_306
  v464

def k0_dev78 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_504 : BitVec 32 := 1#32
  let v733 : BitVec 32 := Scalar.xori v2 c1_i32_504
  let c1_i32_513 : BitVec 32 := 1#32
  let v734 : BitVec 32 := Scalar.muli v733 c1_i32_513
  let v735 : BitVec 32 := Scalar.addi c0_i32_514 v734
  v735.toNat
def k0_cond76 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_307 : BitVec 32 := 1#32
  let v465 : BitVec 1 := Scalar.cmpi .ne v5 c1_i32_307
  let true_310 : BitVec 1 := 1#1
  let v468 : BitVec 1 := Scalar.xori v465 true_310
  let c2_i32 : BitVec 32 := 2#32
  let v8 : BitVec 32 := Scalar.shrsi v2 c2_i32
  let c1_i32_4 : BitVec 32 := 1#32
  let v9 : BitVec 32 := Scalar.andi v8 c1_i32_4
  let c0_i32_308 : BitVec 32 := 0#32
  let v466 : BitVec 1 := Scalar.cmpi .ne v9 c0_i32_308
  let true_311 : BitVec 1 := 1#1
  let v469 : BitVec 1 := Scalar.xori v466 true_311
  let c1_i32_2 : BitVec 32 := 1#32
  let v6 : BitVec 32 := Scalar.shrsi v2 c1_i32_2
  let c1_i32_3 : BitVec 32 := 1#32
  let v7 : BitVec 32 := Scalar.andi v6 c1_i32_3
  let c1_i32_309 : BitVec 32 := 1#32
  let v467 : BitVec 1 := Scalar.cmpi .ne v7 c1_i32_309
  let v470 : BitVec 1 := Scalar.andi v469 v467
  let v471 : BitVec 1 := Scalar.andi v468 v470
  let v472 : BitVec 32 := Scalar.extui v471
  let c0_i32_312 : BitVec 32 := 0#32
  let v473 : BitVec 1 := Scalar.cmpi .ne v472 c0_i32_312
  v473

def k0_dev79 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_503 : BitVec 32 := 3#32
  let v733 : BitVec 32 := Scalar.xori v2 c3_i32_503
  let c1_i32_512 : BitVec 32 := 1#32
  let v734 : BitVec 32 := Scalar.muli v733 c1_i32_512
  let v735 : BitVec 32 := Scalar.addi c0_i32_513 v734
  v735.toNat
def k0_cond77 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_313 : BitVec 32 := 1#32
  let v474 : BitVec 1 := Scalar.cmpi .ne v7 c1_i32_313
  let true_316 : BitVec 1 := 1#1
  let v477 : BitVec 1 := Scalar.xori v474 true_316
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_314 : BitVec 32 := 1#32
  let v475 : BitVec 1 := Scalar.cmpi .ne v5 c1_i32_314
  let true_317 : BitVec 1 := 1#1
  let v478 : BitVec 1 := Scalar.xori v475 true_317
  let c2_i32 : BitVec 32 := 2#32
  let v8 : BitVec 32 := Scalar.shrsi v2 c2_i32
  let c1_i32_4 : BitVec 32 := 1#32
  let v9 : BitVec 32 := Scalar.andi v8 c1_i32_4
  let c0_i32_315 : BitVec 32 := 0#32
  let v476 : BitVec 1 := Scalar.cmpi .ne v9 c0_i32_315
  let v479 : BitVec 1 := Scalar.andi v478 v476
  let v480 : BitVec 1 := Scalar.andi v477 v479
  let v481 : BitVec 32 := Scalar.extui v480
  let c0_i32_318 : BitVec 32 := 0#32
  let v482 : BitVec 1 := Scalar.cmpi .ne v481 c0_i32_318
  v482

def k0_dev80 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v733 : BitVec 32 := Scalar.xori v2 c4_i32_503
  let c1_i32_512 : BitVec 32 := 1#32
  let v734 : BitVec 32 := Scalar.muli v733 c1_i32_512
  let v735 : BitVec 32 := Scalar.addi c0_i32_513 v734
  v735.toNat
def k0_cond78 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_319 : BitVec 32 := 1#32
  let v483 : BitVec 1 := Scalar.cmpi .ne v5 c1_i32_319
  let true_322 : BitVec 1 := 1#1
  let v486 : BitVec 1 := Scalar.xori v483 true_322
  let c1_i32_2 : BitVec 32 := 1#32
  let v6 : BitVec 32 := Scalar.shrsi v2 c1_i32_2
  let c1_i32_3 : BitVec 32 := 1#32
  let v7 : BitVec 32 := Scalar.andi v6 c1_i32_3
  let c1_i32_320 : BitVec 32 := 1#32
  let v484 : BitVec 1 := Scalar.cmpi .ne v7 c1_i32_320
  let true_323 : BitVec 1 := 1#1
  let v487 : BitVec 1 := Scalar.xori v484 true_323
  let c2_i32 : BitVec 32 := 2#32
  let v8 : BitVec 32 := Scalar.shrsi v2 c2_i32
  let c1_i32_4 : BitVec 32 := 1#32
  let v9 : BitVec 32 := Scalar.andi v8 c1_i32_4
  let c1_i32_321 : BitVec 32 := 1#32
  let v485 : BitVec 1 := Scalar.cmpi .ne v9 c1_i32_321
  let v488 : BitVec 1 := Scalar.andi v487 v485
  let v489 : BitVec 1 := Scalar.andi v486 v488
  let v490 : BitVec 32 := Scalar.extui v489
  let c0_i32_324 : BitVec 32 := 0#32
  let v491 : BitVec 1 := Scalar.cmpi .ne v490 c0_i32_324
  v491

def k0_dev81 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_504 : BitVec 32 := 4#32
  let v733 : BitVec 32 := Scalar.xori v2 c4_i32_504
  let c1_i32_513 : BitVec 32 := 1#32
  let v734 : BitVec 32 := Scalar.muli v733 c1_i32_513
  let v735 : BitVec 32 := Scalar.addi c0_i32_514 v734
  v735.toNat
def k0_cond79 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_325 : BitVec 32 := 0#32
  let v492 : BitVec 1 := Scalar.cmpi .ne v5 c0_i32_325
  let true_328 : BitVec 1 := 1#1
  let v495 : BitVec 1 := Scalar.xori v492 true_328
  let c2_i32 : BitVec 32 := 2#32
  let v8 : BitVec 32 := Scalar.shrsi v2 c2_i32
  let c1_i32_4 : BitVec 32 := 1#32
  let v9 : BitVec 32 := Scalar.andi v8 c1_i32_4
  let c0_i32_326 : BitVec 32 := 0#32
  let v493 : BitVec 1 := Scalar.cmpi .ne v9 c0_i32_326
  let true_329 : BitVec 1 := 1#1
  let v496 : BitVec 1 := Scalar.xori v493 true_329
  let c1_i32_2 : BitVec 32 := 1#32
  let v6 : BitVec 32 := Scalar.shrsi v2 c1_i32_2
  let c1_i32_3 : BitVec 32 := 1#32
  let v7 : BitVec 32 := Scalar.andi v6 c1_i32_3
  let c1_i32_327 : BitVec 32 := 1#32
  let v494 : BitVec 1 := Scalar.cmpi .ne v7 c1_i32_327
  let v497 : BitVec 1 := Scalar.andi v496 v494
  let v498 : BitVec 1 := Scalar.andi v495 v497
  let v499 : BitVec 32 := Scalar.extui v498
  let c0_i32_330 : BitVec 32 := 0#32
  let v500 : BitVec 1 := Scalar.cmpi .ne v499 c0_i32_330
  v500

def k0_dev82 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_503 : BitVec 32 := 3#32
  let v733 : BitVec 32 := Scalar.xori v2 c3_i32_503
  let c1_i32_512 : BitVec 32 := 1#32
  let v734 : BitVec 32 := Scalar.muli v733 c1_i32_512
  let v735 : BitVec 32 := Scalar.addi c0_i32_513 v734
  v735.toNat
def k0_cond80 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_331 : BitVec 32 := 0#32
  let v501 : BitVec 1 := Scalar.cmpi .ne v9 c0_i32_331
  let true_334 : BitVec 1 := 1#1
  let v504 : BitVec 1 := Scalar.xori v501 true_334
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_332 : BitVec 32 := 1#32
  let v502 : BitVec 1 := Scalar.cmpi .ne v5 c1_i32_332
  let true_335 : BitVec 1 := 1#1
  let v505 : BitVec 1 := Scalar.xori v502 true_335
  let c1_i32_2 : BitVec 32 := 1#32
  let v6 : BitVec 32 := Scalar.shrsi v2 c1_i32_2
  let c1_i32_3 : BitVec 32 := 1#32
  let v7 : BitVec 32 := Scalar.andi v6 c1_i32_3
  let c1_i32_333 : BitVec 32 := 1#32
  let v503 : BitVec 1 := Scalar.cmpi .ne v7 c1_i32_333
  let v506 : BitVec 1 := Scalar.andi v505 v503
  let v507 : BitVec 1 := Scalar.andi v504 v506
  let v508 : BitVec 32 := Scalar.extui v507
  let c0_i32_336 : BitVec 32 := 0#32
  let v509 : BitVec 1 := Scalar.cmpi .ne v508 c0_i32_336
  v509

def k0_dev83 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_503 : BitVec 32 := 3#32
  let v733 : BitVec 32 := Scalar.xori v2 c3_i32_503
  let c1_i32_512 : BitVec 32 := 1#32
  let v734 : BitVec 32 := Scalar.muli v733 c1_i32_512
  let v735 : BitVec 32 := Scalar.addi c0_i32_513 v734
  v735.toNat
def k0_cond81 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_337 : BitVec 32 := 1#32
  let v510 : BitVec 1 := Scalar.cmpi .ne v9 c1_i32_337
  let true_340 : BitVec 1 := 1#1
  let v513 : BitVec 1 := Scalar.xori v510 true_340
  let c1_i32_2 : BitVec 32 := 1#32
  let v6 : BitVec 32 := Scalar.shrsi v2 c1_i32_2
  let c1_i32_3 : BitVec 32 := 1#32
  let v7 : BitVec 32 := Scalar.andi v6 c1_i32_3
  let c1_i32_338 : BitVec 32 := 1#32
  let v511 : BitVec 1 := Scalar.cmpi .ne v7 c1_i32_338
  let true_341 : BitVec 1 := 1#1
  let v514 : BitVec 1 := Scalar.xori v511 true_341
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_339 : BitVec 32 := 1#32
  let v512 : BitVec 1 := Scalar.cmpi .ne v5 c1_i32_339
  let v515 : BitVec 1 := Scalar.andi v514 v512
  let v516 : BitVec 1 := Scalar.andi v513 v515
  let v517 : BitVec 32 := Scalar.extui v516
  let c0_i32_342 : BitVec 32 := 0#32
  let v518 : BitVec 1 := Scalar.cmpi .ne v517 c0_i32_342
  v518

def k0_dev84 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_503 : BitVec 32 := 1#32
  let v733 : BitVec 32 := Scalar.xori v2 c1_i32_503
  let c1_i32_512 : BitVec 32 := 1#32
  let v734 : BitVec 32 := Scalar.muli v733 c1_i32_512
  let v735 : BitVec 32 := Scalar.addi c0_i32_513 v734
  v735.toNat
def k0_cond82 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_343 : BitVec 32 := 0#32
  let v519 : BitVec 1 := Scalar.cmpi .ne v5 c0_i32_343
  let true_346 : BitVec 1 := 1#1
  let v522 : BitVec 1 := Scalar.xori v519 true_346
  let c2_i32 : BitVec 32 := 2#32
  let v8 : BitVec 32 := Scalar.shrsi v2 c2_i32
  let c1_i32_4 : BitVec 32 := 1#32
  let v9 : BitVec 32 := Scalar.andi v8 c1_i32_4
  let c0_i32_344 : BitVec 32 := 0#32
  let v520 : BitVec 1 := Scalar.cmpi .ne v9 c0_i32_344
  let true_347 : BitVec 1 := 1#1
  let v523 : BitVec 1 := Scalar.xori v520 true_347
  let c1_i32_2 : BitVec 32 := 1#32
  let v6 : BitVec 32 := Scalar.shrsi v2 c1_i32_2
  let c1_i32_3 : BitVec 32 := 1#32
  let v7 : BitVec 32 := Scalar.andi v6 c1_i32_3
  let c1_i32_345 : BitVec 32 := 1#32
  let v521 : BitVec 1 := Scalar.cmpi .ne v7 c1_i32_345
  let v524 : BitVec 1 := Scalar.andi v523 v521
  let v525 : BitVec 1 := Scalar.andi v522 v524
  let v526 : BitVec 32 := Scalar.extui v525
  let c0_i32_348 : BitVec 32 := 0#32
  let v527 : BitVec 1 := Scalar.cmpi .ne v526 c0_i32_348
  v527

def k0_dev85 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_503 : BitVec 32 := 3#32
  let v733 : BitVec 32 := Scalar.xori v2 c3_i32_503
  let c1_i32_512 : BitVec 32 := 1#32
  let v734 : BitVec 32 := Scalar.muli v733 c1_i32_512
  let v735 : BitVec 32 := Scalar.addi c0_i32_513 v734
  v735.toNat
def k0_cond83 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c0_i32_349 : BitVec 32 := 0#32
  let v528 : BitVec 1 := Scalar.cmpi .ne v9 c0_i32_349
  let true_352 : BitVec 1 := 1#1
  let v531 : BitVec 1 := Scalar.xori v528 true_352
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_350 : BitVec 32 := 0#32
  let v529 : BitVec 1 := Scalar.cmpi .ne v5 c0_i32_350
  let true_353 : BitVec 1 := 1#1
  let v532 : BitVec 1 := Scalar.xori v529 true_353
  let c1_i32_2 : BitVec 32 := 1#32
  let v6 : BitVec 32 := Scalar.shrsi v2 c1_i32_2
  let c1_i32_3 : BitVec 32 := 1#32
  let v7 : BitVec 32 := Scalar.andi v6 c1_i32_3
  let c1_i32_351 : BitVec 32 := 1#32
  let v530 : BitVec 1 := Scalar.cmpi .ne v7 c1_i32_351
  let v533 : BitVec 1 := Scalar.andi v532 v530
  let v534 : BitVec 1 := Scalar.andi v531 v533
  let v535 : BitVec 32 := Scalar.extui v534
  let c0_i32_354 : BitVec 32 := 0#32
  let v536 : BitVec 1 := Scalar.cmpi .ne v535 c0_i32_354
  v536

def k0_dev86 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_504 : BitVec 32 := 3#32
  let v733 : BitVec 32 := Scalar.xori v2 c3_i32_504
  let c1_i32_513 : BitVec 32 := 1#32
  let v734 : BitVec 32 := Scalar.muli v733 c1_i32_513
  let v735 : BitVec 32 := Scalar.addi c0_i32_514 v734
  v735.toNat
def k0_cond84 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_355 : BitVec 32 := 1#32
  let v537 : BitVec 1 := Scalar.cmpi .ne v5 c1_i32_355
  let true_358 : BitVec 1 := 1#1
  let v540 : BitVec 1 := Scalar.xori v537 true_358
  let c1_i32_2 : BitVec 32 := 1#32
  let v6 : BitVec 32 := Scalar.shrsi v2 c1_i32_2
  let c1_i32_3 : BitVec 32 := 1#32
  let v7 : BitVec 32 := Scalar.andi v6 c1_i32_3
  let c1_i32_356 : BitVec 32 := 1#32
  let v538 : BitVec 1 := Scalar.cmpi .ne v7 c1_i32_356
  let true_359 : BitVec 1 := 1#1
  let v541 : BitVec 1 := Scalar.xori v538 true_359
  let c2_i32 : BitVec 32 := 2#32
  let v8 : BitVec 32 := Scalar.shrsi v2 c2_i32
  let c1_i32_4 : BitVec 32 := 1#32
  let v9 : BitVec 32 := Scalar.andi v8 c1_i32_4
  let c1_i32_357 : BitVec 32 := 1#32
  let v539 : BitVec 1 := Scalar.cmpi .ne v9 c1_i32_357
  let v542 : BitVec 1 := Scalar.andi v541 v539
  let v543 : BitVec 1 := Scalar.andi v540 v542
  let v544 : BitVec 32 := Scalar.extui v543
  let c0_i32_360 : BitVec 32 := 0#32
  let v545 : BitVec 1 := Scalar.cmpi .ne v544 c0_i32_360
  v545

def k0_dev87 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v733 : BitVec 32 := Scalar.xori v2 c4_i32_503
  let c1_i32_512 : BitVec 32 := 1#32
  let v734 : BitVec 32 := Scalar.muli v733 c1_i32_512
  let v735 : BitVec 32 := Scalar.addi c0_i32_513 v734
  v735.toNat
def k0_cond85 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_361 : BitVec 32 := 0#32
  let v546 : BitVec 1 := Scalar.cmpi .ne v7 c0_i32_361
  let true_364 : BitVec 1 := 1#1
  let v549 : BitVec 1 := Scalar.xori v546 true_364
  let c2_i32 : BitVec 32 := 2#32
  let v8 : BitVec 32 := Scalar.shrsi v2 c2_i32
  let c1_i32_4 : BitVec 32 := 1#32
  let v9 : BitVec 32 := Scalar.andi v8 c1_i32_4
  let c1_i32_362 : BitVec 32 := 1#32
  let v547 : BitVec 1 := Scalar.cmpi .ne v9 c1_i32_362
  let true_365 : BitVec 1 := 1#1
  let v550 : BitVec 1 := Scalar.xori v547 true_365
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_363 : BitVec 32 := 0#32
  let v548 : BitVec 1 := Scalar.cmpi .ne v5 c0_i32_363
  let v551 : BitVec 1 := Scalar.andi v550 v548
  let v552 : BitVec 1 := Scalar.andi v549 v551
  let v553 : BitVec 32 := Scalar.extui v552
  let c0_i32_366 : BitVec 32 := 0#32
  let v554 : BitVec 1 := Scalar.cmpi .ne v553 c0_i32_366
  v554

def k0_dev88 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_503 : BitVec 32 := 1#32
  let v733 : BitVec 32 := Scalar.xori v2 c1_i32_503
  let c1_i32_512 : BitVec 32 := 1#32
  let v734 : BitVec 32 := Scalar.muli v733 c1_i32_512
  let v735 : BitVec 32 := Scalar.addi c0_i32_513 v734
  v735.toNat
def k0_cond86 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_367 : BitVec 32 := 1#32
  let v555 : BitVec 1 := Scalar.cmpi .ne v7 c1_i32_367
  let true_370 : BitVec 1 := 1#1
  let v558 : BitVec 1 := Scalar.xori v555 true_370
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_368 : BitVec 32 := 0#32
  let v556 : BitVec 1 := Scalar.cmpi .ne v5 c0_i32_368
  let true_371 : BitVec 1 := 1#1
  let v559 : BitVec 1 := Scalar.xori v556 true_371
  let c2_i32 : BitVec 32 := 2#32
  let v8 : BitVec 32 := Scalar.shrsi v2 c2_i32
  let c1_i32_4 : BitVec 32 := 1#32
  let v9 : BitVec 32 := Scalar.andi v8 c1_i32_4
  let c0_i32_369 : BitVec 32 := 0#32
  let v557 : BitVec 1 := Scalar.cmpi .ne v9 c0_i32_369
  let v560 : BitVec 1 := Scalar.andi v559 v557
  let v561 : BitVec 1 := Scalar.andi v558 v560
  let v562 : BitVec 32 := Scalar.extui v561
  let c0_i32_372 : BitVec 32 := 0#32
  let v563 : BitVec 1 := Scalar.cmpi .ne v562 c0_i32_372
  v563

def k0_dev89 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v733 : BitVec 32 := Scalar.xori v2 c4_i32_503
  let c1_i32_512 : BitVec 32 := 1#32
  let v734 : BitVec 32 := Scalar.muli v733 c1_i32_512
  let v735 : BitVec 32 := Scalar.addi c0_i32_513 v734
  v735.toNat
def k0_cond87 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_373 : BitVec 32 := 1#32
  let v564 : BitVec 1 := Scalar.cmpi .ne v9 c1_i32_373
  let true_376 : BitVec 1 := 1#1
  let v567 : BitVec 1 := Scalar.xori v564 true_376
  let c1_i32_2 : BitVec 32 := 1#32
  let v6 : BitVec 32 := Scalar.shrsi v2 c1_i32_2
  let c1_i32_3 : BitVec 32 := 1#32
  let v7 : BitVec 32 := Scalar.andi v6 c1_i32_3
  let c1_i32_374 : BitVec 32 := 1#32
  let v565 : BitVec 1 := Scalar.cmpi .ne v7 c1_i32_374
  let true_377 : BitVec 1 := 1#1
  let v568 : BitVec 1 := Scalar.xori v565 true_377
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_375 : BitVec 32 := 1#32
  let v566 : BitVec 1 := Scalar.cmpi .ne v5 c1_i32_375
  let v569 : BitVec 1 := Scalar.andi v568 v566
  let v570 : BitVec 1 := Scalar.andi v567 v569
  let v571 : BitVec 32 := Scalar.extui v570
  let c0_i32_378 : BitVec 32 := 0#32
  let v572 : BitVec 1 := Scalar.cmpi .ne v571 c0_i32_378
  v572

def k0_dev90 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_503 : BitVec 32 := 1#32
  let v733 : BitVec 32 := Scalar.xori v2 c1_i32_503
  let c1_i32_512 : BitVec 32 := 1#32
  let v734 : BitVec 32 := Scalar.muli v733 c1_i32_512
  let v735 : BitVec 32 := Scalar.addi c0_i32_513 v734
  v735.toNat
def k0_cond88 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_379 : BitVec 32 := 1#32
  let v573 : BitVec 1 := Scalar.cmpi .ne v5 c1_i32_379
  let true_382 : BitVec 1 := 1#1
  let v576 : BitVec 1 := Scalar.xori v573 true_382
  let c2_i32 : BitVec 32 := 2#32
  let v8 : BitVec 32 := Scalar.shrsi v2 c2_i32
  let c1_i32_4 : BitVec 32 := 1#32
  let v9 : BitVec 32 := Scalar.andi v8 c1_i32_4
  let c1_i32_380 : BitVec 32 := 1#32
  let v574 : BitVec 1 := Scalar.cmpi .ne v9 c1_i32_380
  let true_383 : BitVec 1 := 1#1
  let v577 : BitVec 1 := Scalar.xori v574 true_383
  let c1_i32_2 : BitVec 32 := 1#32
  let v6 : BitVec 32 := Scalar.shrsi v2 c1_i32_2
  let c1_i32_3 : BitVec 32 := 1#32
  let v7 : BitVec 32 := Scalar.andi v6 c1_i32_3
  let c0_i32_381 : BitVec 32 := 0#32
  let v575 : BitVec 1 := Scalar.cmpi .ne v7 c0_i32_381
  let v578 : BitVec 1 := Scalar.andi v577 v575
  let v579 : BitVec 1 := Scalar.andi v576 v578
  let v580 : BitVec 32 := Scalar.extui v579
  let c0_i32_384 : BitVec 32 := 0#32
  let v581 : BitVec 1 := Scalar.cmpi .ne v580 c0_i32_384
  v581

def k0_dev91 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_503 : BitVec 32 := 3#32
  let v733 : BitVec 32 := Scalar.xori v2 c3_i32_503
  let c1_i32_512 : BitVec 32 := 1#32
  let v734 : BitVec 32 := Scalar.muli v733 c1_i32_512
  let v735 : BitVec 32 := Scalar.addi c0_i32_513 v734
  v735.toNat
def k0_cond89 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_385 : BitVec 32 := 0#32
  let v582 : BitVec 1 := Scalar.cmpi .ne v7 c0_i32_385
  let true_388 : BitVec 1 := 1#1
  let v585 : BitVec 1 := Scalar.xori v582 true_388
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_386 : BitVec 32 := 0#32
  let v583 : BitVec 1 := Scalar.cmpi .ne v5 c0_i32_386
  let true_389 : BitVec 1 := 1#1
  let v586 : BitVec 1 := Scalar.xori v583 true_389
  let c2_i32 : BitVec 32 := 2#32
  let v8 : BitVec 32 := Scalar.shrsi v2 c2_i32
  let c1_i32_4 : BitVec 32 := 1#32
  let v9 : BitVec 32 := Scalar.andi v8 c1_i32_4
  let c1_i32_387 : BitVec 32 := 1#32
  let v584 : BitVec 1 := Scalar.cmpi .ne v9 c1_i32_387
  let v587 : BitVec 1 := Scalar.andi v586 v584
  let v588 : BitVec 1 := Scalar.andi v585 v587
  let v589 : BitVec 32 := Scalar.extui v588
  let c0_i32_390 : BitVec 32 := 0#32
  let v590 : BitVec 1 := Scalar.cmpi .ne v589 c0_i32_390
  v590

def k0_dev92 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v733 : BitVec 32 := Scalar.xori v2 c4_i32_503
  let c1_i32_512 : BitVec 32 := 1#32
  let v734 : BitVec 32 := Scalar.muli v733 c1_i32_512
  let v735 : BitVec 32 := Scalar.addi c0_i32_513 v734
  v735.toNat
def k0_cond90 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_391 : BitVec 32 := 0#32
  let v591 : BitVec 1 := Scalar.cmpi .ne v5 c0_i32_391
  let true_394 : BitVec 1 := 1#1
  let v594 : BitVec 1 := Scalar.xori v591 true_394
  let c1_i32_2 : BitVec 32 := 1#32
  let v6 : BitVec 32 := Scalar.shrsi v2 c1_i32_2
  let c1_i32_3 : BitVec 32 := 1#32
  let v7 : BitVec 32 := Scalar.andi v6 c1_i32_3
  let c1_i32_392 : BitVec 32 := 1#32
  let v592 : BitVec 1 := Scalar.cmpi .ne v7 c1_i32_392
  let true_395 : BitVec 1 := 1#1
  let v595 : BitVec 1 := Scalar.xori v592 true_395
  let c2_i32 : BitVec 32 := 2#32
  let v8 : BitVec 32 := Scalar.shrsi v2 c2_i32
  let c1_i32_4 : BitVec 32 := 1#32
  let v9 : BitVec 32 := Scalar.andi v8 c1_i32_4
  let c1_i32_393 : BitVec 32 := 1#32
  let v593 : BitVec 1 := Scalar.cmpi .ne v9 c1_i32_393
  let v596 : BitVec 1 := Scalar.andi v595 v593
  let v597 : BitVec 1 := Scalar.andi v594 v596
  let v598 : BitVec 32 := Scalar.extui v597
  let c0_i32_396 : BitVec 32 := 0#32
  let v599 : BitVec 1 := Scalar.cmpi .ne v598 c0_i32_396
  v599

def k0_dev93 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v733 : BitVec 32 := Scalar.xori v2 c4_i32_503
  let c1_i32_512 : BitVec 32 := 1#32
  let v734 : BitVec 32 := Scalar.muli v733 c1_i32_512
  let v735 : BitVec 32 := Scalar.addi c0_i32_513 v734
  v735.toNat
def k0_cond91 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_397 : BitVec 32 := 1#32
  let v600 : BitVec 1 := Scalar.cmpi .ne v7 c1_i32_397
  let true_400 : BitVec 1 := 1#1
  let v603 : BitVec 1 := Scalar.xori v600 true_400
  let c2_i32 : BitVec 32 := 2#32
  let v8 : BitVec 32 := Scalar.shrsi v2 c2_i32
  let c1_i32_4 : BitVec 32 := 1#32
  let v9 : BitVec 32 := Scalar.andi v8 c1_i32_4
  let c1_i32_398 : BitVec 32 := 1#32
  let v601 : BitVec 1 := Scalar.cmpi .ne v9 c1_i32_398
  let true_401 : BitVec 1 := 1#1
  let v604 : BitVec 1 := Scalar.xori v601 true_401
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_399 : BitVec 32 := 0#32
  let v602 : BitVec 1 := Scalar.cmpi .ne v5 c0_i32_399
  let v605 : BitVec 1 := Scalar.andi v604 v602
  let v606 : BitVec 1 := Scalar.andi v603 v605
  let v607 : BitVec 32 := Scalar.extui v606
  let c0_i32_402 : BitVec 32 := 0#32
  let v608 : BitVec 1 := Scalar.cmpi .ne v607 c0_i32_402
  v608

def k0_dev94 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_503 : BitVec 32 := 1#32
  let v733 : BitVec 32 := Scalar.xori v2 c1_i32_503
  let c1_i32_512 : BitVec 32 := 1#32
  let v734 : BitVec 32 := Scalar.muli v733 c1_i32_512
  let v735 : BitVec 32 := Scalar.addi c0_i32_513 v734
  v735.toNat
def k0_cond92 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_403 : BitVec 32 := 1#32
  let v609 : BitVec 1 := Scalar.cmpi .ne v9 c1_i32_403
  let true_406 : BitVec 1 := 1#1
  let v612 : BitVec 1 := Scalar.xori v609 true_406
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_404 : BitVec 32 := 0#32
  let v610 : BitVec 1 := Scalar.cmpi .ne v5 c0_i32_404
  let true_407 : BitVec 1 := 1#1
  let v613 : BitVec 1 := Scalar.xori v610 true_407
  let c1_i32_2 : BitVec 32 := 1#32
  let v6 : BitVec 32 := Scalar.shrsi v2 c1_i32_2
  let c1_i32_3 : BitVec 32 := 1#32
  let v7 : BitVec 32 := Scalar.andi v6 c1_i32_3
  let c0_i32_405 : BitVec 32 := 0#32
  let v611 : BitVec 1 := Scalar.cmpi .ne v7 c0_i32_405
  let v614 : BitVec 1 := Scalar.andi v613 v611
  let v615 : BitVec 1 := Scalar.andi v612 v614
  let v616 : BitVec 32 := Scalar.extui v615
  let c0_i32_408 : BitVec 32 := 0#32
  let v617 : BitVec 1 := Scalar.cmpi .ne v616 c0_i32_408
  v617

def k0_dev95 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_503 : BitVec 32 := 3#32
  let v733 : BitVec 32 := Scalar.xori v2 c3_i32_503
  let c1_i32_512 : BitVec 32 := 1#32
  let v734 : BitVec 32 := Scalar.muli v733 c1_i32_512
  let v735 : BitVec 32 := Scalar.addi c0_i32_513 v734
  v735.toNat
def k0_cond93 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_409 : BitVec 32 := 1#32
  let v618 : BitVec 1 := Scalar.cmpi .ne v9 c1_i32_409
  let true_412 : BitVec 1 := 1#1
  let v621 : BitVec 1 := Scalar.xori v618 true_412
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_410 : BitVec 32 := 1#32
  let v619 : BitVec 1 := Scalar.cmpi .ne v5 c1_i32_410
  let true_413 : BitVec 1 := 1#1
  let v622 : BitVec 1 := Scalar.xori v619 true_413
  let c1_i32_2 : BitVec 32 := 1#32
  let v6 : BitVec 32 := Scalar.shrsi v2 c1_i32_2
  let c1_i32_3 : BitVec 32 := 1#32
  let v7 : BitVec 32 := Scalar.andi v6 c1_i32_3
  let c0_i32_411 : BitVec 32 := 0#32
  let v620 : BitVec 1 := Scalar.cmpi .ne v7 c0_i32_411
  let v623 : BitVec 1 := Scalar.andi v622 v620
  let v624 : BitVec 1 := Scalar.andi v621 v623
  let v625 : BitVec 32 := Scalar.extui v624
  let c0_i32_414 : BitVec 32 := 0#32
  let v626 : BitVec 1 := Scalar.cmpi .ne v625 c0_i32_414
  v626

def k0_dev96 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_503 : BitVec 32 := 3#32
  let v733 : BitVec 32 := Scalar.xori v2 c3_i32_503
  let c1_i32_512 : BitVec 32 := 1#32
  let v734 : BitVec 32 := Scalar.muli v733 c1_i32_512
  let v735 : BitVec 32 := Scalar.addi c0_i32_513 v734
  v735.toNat
def k0_cond94 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c0_i32_415 : BitVec 32 := 0#32
  let v627 : BitVec 1 := Scalar.cmpi .ne v7 c0_i32_415
  let true_418 : BitVec 1 := 1#1
  let v630 : BitVec 1 := Scalar.xori v627 true_418
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c1_i32_416 : BitVec 32 := 1#32
  let v628 : BitVec 1 := Scalar.cmpi .ne v5 c1_i32_416
  let true_419 : BitVec 1 := 1#1
  let v631 : BitVec 1 := Scalar.xori v628 true_419
  let c2_i32 : BitVec 32 := 2#32
  let v8 : BitVec 32 := Scalar.shrsi v2 c2_i32
  let c1_i32_4 : BitVec 32 := 1#32
  let v9 : BitVec 32 := Scalar.andi v8 c1_i32_4
  let c1_i32_417 : BitVec 32 := 1#32
  let v629 : BitVec 1 := Scalar.cmpi .ne v9 c1_i32_417
  let v632 : BitVec 1 := Scalar.andi v631 v629
  let v633 : BitVec 1 := Scalar.andi v630 v632
  let v634 : BitVec 32 := Scalar.extui v633
  let c0_i32_420 : BitVec 32 := 0#32
  let v635 : BitVec 1 := Scalar.cmpi .ne v634 c0_i32_420
  v635

def k0_dev97 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_503 : BitVec 32 := 4#32
  let v733 : BitVec 32 := Scalar.xori v2 c4_i32_503
  let c1_i32_512 : BitVec 32 := 1#32
  let v734 : BitVec 32 := Scalar.muli v733 c1_i32_512
  let v735 : BitVec 32 := Scalar.addi c0_i32_513 v734
  v735.toNat
def k0_cond95 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v6 : BitVec 32 := Scalar.shrsi v2 c1_i32_2
  let c1_i32_3 : BitVec 32 := 1#32
  let v7 : BitVec 32 := Scalar.andi v6 c1_i32_3
  let c1_i32_421 : BitVec 32 := 1#32
  let v636 : BitVec 1 := Scalar.cmpi .ne v7 c1_i32_421
  let true_424 : BitVec 1 := 1#1
  let v639 : BitVec 1 := Scalar.xori v636 true_424
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_422 : BitVec 32 := 0#32
  let v637 : BitVec 1 := Scalar.cmpi .ne v5 c0_i32_422
  let true_425 : BitVec 1 := 1#1
  let v640 : BitVec 1 := Scalar.xori v637 true_425
  let c2_i32 : BitVec 32 := 2#32
  let v8 : BitVec 32 := Scalar.shrsi v2 c2_i32
  let c1_i32_4 : BitVec 32 := 1#32
  let v9 : BitVec 32 := Scalar.andi v8 c1_i32_4
  let c1_i32_423 : BitVec 32 := 1#32
  let v638 : BitVec 1 := Scalar.cmpi .ne v9 c1_i32_423
  let v641 : BitVec 1 := Scalar.andi v640 v638
  let v642 : BitVec 1 := Scalar.andi v639 v641
  let v643 : BitVec 32 := Scalar.extui v642
  let c0_i32_426 : BitVec 32 := 0#32
  let v644 : BitVec 1 := Scalar.cmpi .ne v643 c0_i32_426
  v644

def k0_dev98 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_504 : BitVec 32 := 4#32
  let v733 : BitVec 32 := Scalar.xori v2 c4_i32_504
  let c1_i32_513 : BitVec 32 := 1#32
  let v734 : BitVec 32 := Scalar.muli v733 c1_i32_513
  let v735 : BitVec 32 := Scalar.addi c0_i32_514 v734
  v735.toNat
def k0_cond96 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.shrsi v2 c2_i32
  let c1_i32_4 : BitVec 32 := 1#32
  let v9 : BitVec 32 := Scalar.andi v8 c1_i32_4
  let c1_i32_427 : BitVec 32 := 1#32
  let v645 : BitVec 1 := Scalar.cmpi .ne v9 c1_i32_427
  let true_430 : BitVec 1 := 1#1
  let v648 : BitVec 1 := Scalar.xori v645 true_430
  let c1_i32_0 : BitVec 32 := 1#32
  let v3 : BitVec 32 := Scalar.shrsi v2 c1_i32_0
  let v4 : BitVec 32 := Scalar.xori v2 v3
  let c1_i32_1 : BitVec 32 := 1#32
  let v5 : BitVec 32 := Scalar.andi v4 c1_i32_1
  let c0_i32_428 : BitVec 32 := 0#32
  let v646 : BitVec 1 := Scalar.cmpi .ne v5 c0_i32_428
  let true_431 : BitVec 1 := 1#1
  let v649 : BitVec 1 := Scalar.xori v646 true_431
  let c1_i32_2 : BitVec 32 := 1#32
  let v6 : BitVec 32 := Scalar.shrsi v2 c1_i32_2
  let c1_i32_3 : BitVec 32 := 1#32
  let v7 : BitVec 32 := Scalar.andi v6 c1_i32_3
  let c1_i32_429 : BitVec 32 := 1#32
  let v647 : BitVec 1 := Scalar.cmpi .ne v7 c1_i32_429
  let v650 : BitVec 1 := Scalar.andi v649 v647
  let v651 : BitVec 1 := Scalar.andi v648 v650
  let v652 : BitVec 32 := Scalar.extui v651
  let c0_i32_432 : BitVec 32 := 0#32
  let v653 : BitVec 1 := Scalar.cmpi .ne v652 c0_i32_432
  v653

def k0_dev99 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_503 : BitVec 32 := 3#32
  let v733 : BitVec 32 := Scalar.xori v2 c3_i32_503
  let c1_i32_512 : BitVec 32 := 1#32
  let v734 : BitVec 32 := Scalar.muli v733 c1_i32_512
  let v735 : BitVec 32 := Scalar.addi c0_i32_513 v734
  v735.toNat
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
/-
The kernel's body as a list of steps.

The printed body is one long sequence in which the same few steps return for every row block `q` (of 8) and every
column quarter `h` (of 4). Here each kind of step is written once, over `q`, `h` and the device `d0` that runs it, and
the whole body (`body`) is the steps in the kernel's order. `BodyEq.lean` proves that the printed body is this one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Cube

open Cert.KernelIdeal Cert.KernelIdeal.Gen
open Idealize.ShloMosaic Idealize.ShloMosaic.TcCoe Idealize.SL.Sem

variable {F : FTy → Type} [FloatOps F]

/-! ## The kernel's tables -/

/-- The axis of the cube along which block `(q, h)` travels at step `s`. -/
def ax (q : Fin 8) (h : Fin 4) : Fin 3 → Fin 3 :=
  match q, h with
  | 0, 0 => ![2, 0, 1] | 0, 1 => ![2, 1, 0] | 0, 2 => ![2, 0, 1] | 0, 3 => ![1, 0, 2]
  | 1, 0 => ![0, 2, 1] | 1, 1 => ![0, 1, 2] | 1, 2 => ![1, 2, 0] | 1, 3 => ![1, 0, 2]
  | 2, 0 => ![1, 2, 0] | 2, 1 => ![1, 0, 2] | 2, 2 => ![2, 0, 1] | 2, 3 => ![0, 2, 1]
  | 3, 0 => ![2, 0, 1] | 3, 1 => ![0, 2, 1] | 3, 2 => ![1, 0, 2] | 3, 3 => ![0, 2, 1]
  | 4, 0 => ![0, 1, 2] | 4, 1 => ![1, 2, 0] | 4, 2 => ![1, 0, 2] | 4, 3 => ![2, 0, 1]
  | 5, 0 => ![2, 1, 0] | 5, 1 => ![2, 0, 1] | 5, 2 => ![0, 2, 1] | 5, 3 => ![1, 0, 2]
  | 6, 0 => ![0, 1, 2] | 6, 1 => ![2, 1, 0] | 6, 2 => ![0, 1, 2] | 6, 3 => ![2, 1, 0]
  | 7, 0 => ![1, 0, 2] | 7, 1 => ![1, 2, 0] | 7, 2 => ![2, 0, 1] | 7, 3 => ![0, 1, 2]

/-- The bits of a device's number that change along an axis. -/
def mask : Fin 3 → ℕ := ![1, 3, 4]
/-- Device `q`'s coordinate along an axis. -/
def crd (a : Fin 3) (q : Fin 8) : ℕ :=
  (![![0, 1, 1, 0, 0, 1, 1, 0], ![0, 0, 1, 1, 0, 0, 1, 1], ![0, 0, 0, 0, 1, 1, 1, 1]] : Fin 3 → Fin 8 → ℕ) a q

/-- The order of the second phase's steps and of the third's. -/
def order2 : List (Fin 8 × Fin 4) :=
  [(1, 0), (0, 3), (0, 0), (1, 1), (1, 2), (0, 1), (2, 3), (1, 3), (0, 2), (3, 1), (2, 0), (2, 2), (3, 3), (2, 1), (3, 0),
   (4, 0), (3, 2), (4, 3), (5, 2), (4, 1), (5, 0), (6, 0), (4, 2), (5, 1), (6, 2), (5, 3), (6, 1), (7, 3), (7, 0), (6, 3),
   (7, 1), (7, 2)]
def order3 : List (Fin 8 × Fin 4) :=
  [(0, 0), (0, 1), (1, 0), (0, 2), (1, 1), (1, 2), (0, 3), (4, 0), (2, 0), (1, 3), (5, 0), (2, 3), (2, 1), (6, 0), (3, 1),
   (2, 2), (6, 1), (3, 3), (3, 0), (6, 2), (4, 1), (3, 2), (6, 3), (5, 2), (4, 2), (7, 3), (7, 1), (4, 3), (5, 1), (5, 3),
   (7, 0), (7, 2)]

/-! ## The words the kernel computes from its device number -/

/-- The device's number, its coordinate along axis `a`, and the bit saying that block `(q, h)`'s coordinate along its
    axis of step `s` differs from the device's. -/
def myW (d0 : Dev nD) : BitVec 32 := Scalar.remsi (Scalar.divsi (Dev.word d0) 1#32) 8#32
def crdW (a : Fin 3) (d0 : Dev nD) : BitVec 32 :=
  match a with
  | 0 => Scalar.andi (Scalar.xori (myW d0) (Scalar.shrsi (myW d0) 1#32)) 1#32
  | 1 => Scalar.andi (Scalar.shrsi (myW d0) 1#32) 1#32
  | 2 => Scalar.andi (Scalar.shrsi (myW d0) 2#32) 1#32
def difW (q : Fin 8) (h : Fin 4) (s : Fin 3) (d0 : Dev nD) : BitVec 1 :=
  Scalar.cmpi .ne (crdW (ax q h s) d0) (BitVec.ofNat 32 (crd (ax q h s) q))
def flag (b : BitVec 1) : BitVec 1 := Scalar.cmpi .ne (Scalar.extui b : BitVec 32) 0#32
/-- The conditions of the kernel's six phases. -/
def cond1 (q : Fin 8) (h : Fin 4) (d0 : Dev nD) : BitVec 1 := flag (difW q h 0 d0)
def cond2 (q : Fin 8) (h : Fin 4) (d0 : Dev nD) : BitVec 1 :=
  flag (Scalar.andi (Scalar.xori (difW q h 0 d0) 1#1) (difW q h 1 d0))
def cond3 (q : Fin 8) (h : Fin 4) (d0 : Dev nD) : BitVec 1 :=
  flag (Scalar.andi (Scalar.xori (difW q h 0 d0) 1#1) (Scalar.andi (Scalar.xori (difW q h 1 d0) 1#1) (difW q h 2 d0)))
def condE (q : Fin 8) (d0 : Dev nD) : BitVec 1 := flag (Scalar.cmpi .eq (myW d0) (BitVec.ofNat 32 q.val))
def condN (q : Fin 8) (d0 : Dev nD) : BitVec 1 := flag (Scalar.cmpi .ne (myW d0) (BitVec.ofNat 32 q.val))

/-- The neighbour along axis `a`, as the kernel computes it. -/
def nbW (a : Fin 3) (d0 : Dev nD) : ℕ :=
  (Scalar.addi 0#32 (Scalar.muli (Scalar.xori (myW d0) (BitVec.ofNat 32 (mask a))) 1#32)).toNat
theorem nbW_lt (a : Fin 3) (d0 : Dev nD) : nbW a d0 < nD := by revert a d0; decide +kernel
def nbD (a : Fin 3) (d0 : Dev nD) : Dev nD := ⟨nbW a d0, nbW_lt a d0⟩

/-! ## Memrefs, semaphores and tiles -/

abbrev xM : Memref sig .tc .vmem S2048x256 .bf16 := Memref.whole cc0_stg0_0
abbrev wM : Memref sig .tc .vmem S256x2048 .bf16 := Memref.whole cc0_stg1_0
abbrev oM : Memref sig .tc .vmem S256x2048 .f32 := Memref.whole cc0_stg2_0
abbrev sM : Memref sig .tc .vmem S8x256x2048 .bf16 := Memref.whole cc0_scratch0
abbrev rM : Memref sig .tc .vmem S8x3x256x2048 .bf16 := Memref.whole cc0_scratch1
abbrev barS : Sem sig := (SemArray.scalar (sig.barrier 0 rfl) : Sems sig S_).sem

theorem inbX (q : Fin 8) : ∀ a, (![256 * q.val, 0] : Fin 2 → ℕ) a + S256x256.size a ≤ S2048x256.size a := by
  revert q; decide
theorem inbB (q : Fin 8) : ∀ a, (![q.val, 0, 0] : Fin 3 → ℕ) a + S1x256x2048.size a ≤ S8x256x2048.size a := by
  revert q; decide
theorem inbS (q : Fin 8) (h : Fin 4) :
    ∀ a, (![q.val, 0, 512 * h.val] : Fin 3 → ℕ) a + S1x256x512.size a ≤ S8x256x2048.size a := by
  revert q h; decide
theorem inbR (q : Fin 8) (s : Fin 3) (h : Fin 4) :
    ∀ a, (![q.val, s.val, 0, 512 * h.val] : Fin 4 → ℕ) a + S1x1x256x512.size a ≤ S8x3x256x2048.size a := by
  revert q s h; decide
theorem inbO (h : Fin 4) : ∀ a, (![0, 512 * h.val] : Fin 2 → ℕ) a + S256x512.size a ≤ S256x2048.size a := by
  revert h; decide
theorem inb5 (q : Fin 8) (h : Fin 4) : ∀ a, (![q.val, h.val] : Fin 2 → ℕ) a + S1x1.size a ≤ S8x4.size a := by
  revert q h; decide
theorem inb6 (q : Fin 8) (s : Fin 3) (h : Fin 4) :
    ∀ a, (![q.val, s.val, h.val] : Fin 3 → ℕ) a + S1x1x1.size a ≤ S8x3x4.size a := by
  revert q s h; decide

/-- The rectangles: block `q` of the rows of x, of the send buffer; tile `(q, h)` of the send buffer, tile `(q, s, h)`
    of the receive buffer, quarter `h` of the result. -/
abbrev rectX (q : Fin 8) : Rect S2048x256 := Rect.unit (s := S2048x256) ![256 * q.val, 0] S256x256.size (inbX q)
abbrev rectW : Rect S256x2048 := Rect.unit (s := S256x2048) ![0, 0] S256x2048.size inb_S256x2048_S256x2048_0_0
abbrev rectB (q : Fin 8) : Rect S8x256x2048 :=
  Rect.unit (s := S8x256x2048) ![q.val, 0, 0] S1x256x2048.size (inbB q)
abbrev rectS (q : Fin 8) (h : Fin 4) : Rect S8x256x2048 :=
  Rect.unit (s := S8x256x2048) ![q.val, 0, 512 * h.val] S1x256x512.size (inbS q h)
abbrev rectR (q : Fin 8) (s : Fin 3) (h : Fin 4) : Rect S8x3x256x2048 :=
  Rect.unit (s := S8x3x256x2048) ![q.val, s.val, 0, 512 * h.val] S1x1x256x512.size (inbR q s h)
abbrev rectO (h : Fin 4) : Rect S256x2048 := Rect.unit (s := S256x2048) ![0, 512 * h.val] S256x512.size (inbO h)

theorem packB (q : Fin 8) : (rectB q).PackedRows (EltTy.packing .bf16) := by revert q; decide
theorem packS (q : Fin 8) (h : Fin 4) : (rectS q h).PackedRows (EltTy.packing .bf16) := by revert q h; decide
theorem wordS (q : Fin 8) (h : Fin 4) : (rectS q h).WholeWords (EltTy.packing .bf16) := by revert q h; decide
theorem wordR (q : Fin 8) (s : Fin 3) (h : Fin 4) : (rectR q s h).WholeWords (EltTy.packing .bf16) := by
  revert q s h; decide

/-- Tile `(q, h)` of the send buffer and tile `(q, s, h)` of the receive buffer, as the transfers name them. -/
abbrev sV (q : Fin 8) (h : Fin 4) : Memref sig .tc .vmem S256x512 .bf16 :=
  (sM.slice (rectS q h) (fun _ => rfl)).squeeze S256x512 squeezes_S1x256x512_S256x512
abbrev rV (q : Fin 8) (s : Fin 3) (h : Fin 4) : Memref sig .tc .vmem S256x512 .bf16 :=
  (rM.slice (rectR q s h) (fun _ => rfl)).squeeze S256x512 squeezes_S1x1x256x512_S256x512
/-- The send semaphore of tile `(q, h)`, the receive semaphore of tile `(q, s, h)`. -/
abbrev sSem (q : Fin 8) (h : Fin 4) : DmaSem sig :=
  ((cc0_scratch2.slice (Rect.unit (s := S8x4) ![q.val, h.val] S1x1.size (inb5 q h))).squeeze S_ squeezes_S1x1_S_).sem
abbrev rSem (q : Fin 8) (s : Fin 3) (h : Fin 4) : DmaSem sig :=
  ((cc0_scratch3.slice (Rect.unit (s := S8x3x4) ![q.val, s.val, h.val] S1x1x1.size (inb6 q s h))).squeeze S_
    squeezes_S1x1x1_S_).sem

theorem sV_words (q : Fin 8) (h : Fin 4) : (sV q h).view.WordExact :=
  ((Memref.isWhole_whole cc0_scratch0).wordExact_slice rfl _ (wordS q h)).reshape _ _
theorem rV_words (q : Fin 8) (s : Fin 3) (h : Fin 4) : (rV q s h).view.WordExact :=
  ((Memref.isWhole_whole cc0_scratch1).wordExact_slice rfl _ (wordR q s h)).reshape _ _

/-! ## The pure values -/

/-- A tile as a matrix of f32, from the send buffer and from the receive buffer. -/
def upS (v : Vec F S1x256x512 .bf16) : FVec F S256x512 .f32 :=
  extf .f32 (shapeCast S256x512 v shapeCasts_S1x256x512_S256x512) bitsLt_bf16_f32
def upR (v : Vec F S1x1x256x512 .bf16) : FVec F S256x512 .f32 :=
  extf .f32 (shapeCast S256x512 v shapeCasts_S1x1x256x512_S256x512) bitsLt_bf16_f32
/-- An f32 matrix rounded into a tile of the send buffer. -/
def downS (a : FVec F S256x512 .f32) : FVec F S1x256x512 .bf16 :=
  shapeCast S1x256x512 (truncf .bf16 a bitsLt_bf16_f32) shapeCasts_S256x512_S1x256x512
/-- A block of x times w, rounded into a row block of the send buffer. -/
def mmV (w : Vec F S256x2048 .bf16) (x : Vec F S256x256 .bf16) : FVec F S1x256x2048 .bf16 :=
  shapeCast S1x256x2048 (truncf .bf16 (matmul dot_S256x256_S256x2048_S256x2048_1_0_0_1_n_n none
    (shapeCast S256x256 x shapeCasts_S256x256_S256x256 : FVec F S256x256 .bf16)
    (shapeCast S256x2048 w shapeCasts_S256x2048_S256x2048 : FVec F S256x2048 .bf16)
    (constant S256x2048 .f32 0x00000000#32)) bitsLt_bf16_f32) shapeCasts_S256x2048_S1x256x2048

/-! ## The steps -/

/-- The programs of the body. -/
abbrev KP (F : FTy → Type) [FloatOps F] (α : Type) : Type 1 := Prog (TpuEff nD τ sig (Elt F) Λ₀ .tc) α

def loadS (q : Fin 8) (h : Fin 4) : KP F (Vec F S1x256x512 .bf16) :=
  Prog.lift (.load sM (rectS q h).toLoadRect (View.loadsAt_vmem h_S1x256x512))
def loadR (q : Fin 8) (s : Fin 3) (h : Fin 4) : KP F (Vec F S1x1x256x512 .bf16) :=
  Prog.lift (.load rM (rectR q s h).toLoadRect (View.loadsAt_vmem h_S1x1x256x512))
def storeS (q : Fin 8) (h : Fin 4) (v : Vec F S1x256x512 .bf16) : KP F PUnit :=
  Prog.lift (.store sM (rectS q h) v Finset.univ (View.stores_vmem h_S1x256x512
    ((Memref.isWhole_whole cc0_scratch0).storeExact_slice rfl _ (packS q h)) (fun _ => rfl)) (.inl rfl))
/-- Wait for the transfer into tile `(q, s, h)`; for the transfer out of tile `(q, h)`. -/
def waitR (q : Fin 8) (s : Fin 3) (h : Fin 4) : KP F PUnit :=
  Prog.lift (.waitDma2 (rSem q s h) (sV q h) (rV q s h) (sV_words q h) (rV_words q s h))
def waitS (q : Fin 8) (h : Fin 4) : KP F PUnit :=
  Prog.lift (.waitDma2 (sSem q h) (rV q 0 h) (sV q h) (rV_words q 0 h) (sV_words q h))
/-- Send tile `(q, h)` to the neighbour along axis `ax q h s`, into its tile `(q, s, h)`. -/
def send (q : Fin 8) (s : Fin 3) (h : Fin 4) (d0 : Dev nD) : KP F PUnit :=
  Prog.lift (.enqueueDma (sV q h) (.remote (Dev.tc (nbD (ax q h s) d0)) (rV q s h) (.dma (sSem q h))) (.dma (rSem q s h))
    (sV_words q h) (rV_words q s h) ⟨⟨rfl, Or.inl rfl⟩, trivial⟩)

/-- Row block `q` of x times w, stored in row block `q` of the send buffer. -/
def mmStep (w : Vec F S256x2048 .bf16) (q : Fin 8) : KP F PUnit := do
  let x ← Prog.lift (.load xM (rectX q).toLoadRect (View.loadsAt_vmem h_S256x256))
  let _ ← Prog.lift (.load sM (rectB q).toLoadRect (View.loadsAt_vmem h_S1x256x2048))
  Prog.lift (.store sM (rectB q) (mmV w x) Finset.univ (View.stores_vmem h_S1x256x2048
    ((Memref.isWhole_whole cc0_scratch0).storeExact_slice rfl _ (packB q)) (fun _ => rfl)) (.inl rfl))
def barWait : KP F PUnit := semWaitWord barS 3#32
/-- A program run if a word's bit is set. -/
def guard (c : BitVec 1) (p : KP F PUnit) : KP F PUnit := if _h : c = 1#1 then p else pure ⟨⟩
/-- Phase 1: send a tile that leaves at once. -/
def ph1 (d0 : Dev nD) (q : Fin 8) (h : Fin 4) : KP F PUnit := guard (cond1 q h d0) (send q 0 h d0)
/-- Add tile `(q, s, h)` received into tile `(q, h)`. -/
def comb (q : Fin 8) (s : Fin 3) (h : Fin 4) : KP F PUnit := do
  let v ← loadS q h
  let r ← loadR q s h
  let _ ← loadS q h
  storeS q h (downS (addf (upS v) (upR r)))
/-- Add the first two tiles received into tile `(q, h)`. -/
def comb2 (q : Fin 8) (h : Fin 4) : KP F PUnit := do
  let v ← loadS q h
  let r ← loadR q 0 h
  let r' ← loadR q 1 h
  let _ ← loadS q h
  storeS q h (downS (addf (addf (upS v) (upR r)) (upR r')))
/-- Phase 2: a tile that leaves after one arrival. -/
def go2 (d0 : Dev nD) (q : Fin 8) (h : Fin 4) : KP F PUnit := do
  waitR q 0 h
  comb q 0 h
  send q 1 h d0
def ph2 (d0 : Dev nD) (qh : Fin 8 × Fin 4) : KP F PUnit := guard (cond2 qh.1 qh.2 d0) (go2 d0 qh.1 qh.2)
/-- Phase 3: a tile that leaves after two arrivals. -/
def go3 (d0 : Dev nD) (q : Fin 8) (h : Fin 4) : KP F PUnit := do
  waitR q 0 h
  waitR q 1 h
  comb2 q h
  send q 2 h d0
def ph3 (d0 : Dev nD) (qh : Fin 8 × Fin 4) : KP F PUnit := guard (cond3 qh.1 qh.2 d0) (go3 d0 qh.1 qh.2)
/-- Phase 5's last step: the third arrival and the result's quarter `h`. -/
def outStep (q : Fin 8) (h : Fin 4) : KP F PUnit := do
  waitR q 2 h
  let v ← loadS q h
  let r ← loadR q 2 h
  let _ ← Prog.lift (.load oM (rectO h).toLoadRect (View.loadsAt_vmem h_S256x512))
  Prog.lift (.store oM (rectO h) (addf (upS v) (upR r)) Finset.univ (View.stores_vmem_bits_univ h_S256x512 rfl) (.inl rfl))
def recvStep (q : Fin 8) (s : Fin 3) (h : Fin 4) : KP F PUnit := do waitR q s h; comb q s h
/-- Phase 5: the block that stays. -/
def fin5 (q : Fin 8) : KP F PUnit :=
  Pipeline.chain ([0, 1, 2, 3].map (recvStep q 0) ++ [0, 1, 2, 3].map (recvStep q 1) ++ [0, 1, 2, 3].map (outStep q))
def ph5 (d0 : Dev nD) (q : Fin 8) : KP F PUnit := guard (condE q d0) (fin5 q)
/-- Phase 6: the blocks that left. -/
def fin6 (q : Fin 8) : KP F PUnit := Pipeline.chain ([0, 1, 2, 3].map (waitS q))
def ph6 (d0 : Dev nD) (q : Fin 8) : KP F PUnit := guard (condN q d0) (fin6 q)

def blocks8 : List (Fin 8) := [0, 1, 2, 3, 4, 5, 6, 7]
/-- Phase 1 for one row block (the barrier wait stands in block 0). -/
def items1 (d0 : Dev nD) (w : Vec F S256x2048 .bf16) (q : Fin 8) : List (KP F PUnit) :=
  (mmStep w q :: if q = 0 then [barWait] else []) ++ [ph1 d0 q 0, ph1 d0 q 1, ph1 d0 q 2, ph1 d0 q 3]
/-- The steps after the signals and the load of w. -/
def items (d0 : Dev nD) (w : Vec F S256x2048 .bf16) : List (KP F PUnit) :=
  blocks8.flatMap (items1 d0 w) ++ order2.map (ph2 d0) ++ order3.map (ph3 d0) ++ blocks8.map (ph5 d0) ++
    blocks8.map (ph6 d0)

/-- The body: the three signals, the load of w, the steps. -/
def body : KP F PUnit := do
  let d0 ← Prog.lift .deviceId
  semSignalWord (nbD 0 d0) barS 1#32
  semSignalWord (nbD 1 d0) barS 1#32
  semSignalWord (nbD 2 d0) barS 1#32
  let w ← Prog.lift (.load wM rectW.toLoadRect (View.loadsAt_vmem h_S256x2048))
  Pipeline.chain (items d0 w)

end Cert.Cube
-- ==== Proof.Tables.lean ====
/-
The cube: where each device stands, by block.

Device `c` keeps block `(q, h)` of its partial product until step `stp q h c` of 0, 1, 2, and then sends it to its
neighbour along axis `ax q h (stp q h c)`; a device with `stp q h c = 3` is the block's owner `q` and never sends it.
Before its own step it receives one tile at every earlier step `s`, from the neighbour along `ax q h s`, whose step is
`s`. The semaphores are numbered: the send semaphores from 3, the receive semaphores from 35.
-/
module

public import proofs.«01_k».proof.Proof.Steps

@[expose] public section

noncomputable section

namespace Cert.Cube

open Cert.KernelIdeal Cert.KernelIdeal.Gen
open Idealize.ShloMosaic Idealize.ShloMosaic.TcCoe

/-! ## Neighbours and steps -/

theorem nb_nb (a : Fin 3) (c : Dev nD) : nbD a (nbD a c) = c := by revert a c; decide +kernel
/-- The neighbour along an axis, as a permutation of the devices. -/
def nbE (a : Fin 3) : Dev nD ≃ Dev nD := ⟨nbD a, nbD a, nb_nb a, nb_nb a⟩
theorem nb_eq_iff (a : Fin 3) (c d : Dev nD) : nbD a c = d ↔ c = nbD a d :=
  ⟨fun h => by rw [← h, nb_nb], fun h => by rw [h, nb_nb]⟩

/-- The step at which device `c` sends block `(q, h)`; 3 if it keeps it. -/
def stp (q : Fin 8) (h : Fin 4) (c : Dev nD) : ℕ :=
  if cond1 q h c = 1#1 then 0 else if cond2 q h c = 1#1 then 1 else if cond3 q h c = 1#1 then 2 else 3

theorem cond1_iff (q : Fin 8) (h : Fin 4) (c : Dev nD) : cond1 q h c = 1#1 ↔ stp q h c = 0 := by
  revert q h c; decide +kernel
theorem cond2_iff (q : Fin 8) (h : Fin 4) (c : Dev nD) : cond2 q h c = 1#1 ↔ stp q h c = 1 := by
  revert q h c; decide +kernel
theorem cond3_iff (q : Fin 8) (h : Fin 4) (c : Dev nD) : cond3 q h c = 1#1 ↔ stp q h c = 2 := by
  revert q h c; decide +kernel
theorem condE_iff (q : Fin 8) (h : Fin 4) (c : Dev nD) : condE q c = 1#1 ↔ stp q h c = 3 := by
  revert q h c; decide +kernel
theorem condN_iff (q : Fin 8) (h : Fin 4) (c : Dev nD) : condN q c = 1#1 ↔ stp q h c < 3 := by
  revert q h c; decide +kernel
theorem stp_le (q : Fin 8) (h : Fin 4) (c : Dev nD) : stp q h c ≤ 3 := by revert q h c; decide +kernel
theorem stp_owner (q : Fin 8) (h : Fin 4) (c : Dev nD) : stp q h c = 3 ↔ c.val = q.val := by
  revert q h c; decide +kernel

/-- The neighbour along the axis of step `s` sends at step `s` exactly if the device itself waits longer. -/
theorem stp_nb (q : Fin 8) (h : Fin 4) (s : Fin 3) (c : Dev nD) :
    stp q h (nbD (ax q h s) c) = s.val ↔ s.val < stp q h c := by revert q h s c; decide +kernel
theorem ax_inj (q : Fin 8) (h : Fin 4) (s s' : Fin 3) : ax q h s = ax q h s' ↔ s = s' := by
  revert q h s s'; decide +kernel
/-- The steps in the order of their axes. -/
def axE (q : Fin 8) (h : Fin 4) : Fin 3 ≃ Fin 3 :=
  Equiv.ofBijective (ax q h) (Finite.injective_iff_bijective.mp fun _ _ e => (ax_inj q h _ _).mp e)

/-! ## The orders of the steps list every block once -/

abbrev QH : Type := Fin 8 × Fin 4
def order1 : List QH := blocks8.flatMap fun q => [(q, 0), (q, 1), (q, 2), (q, 3)]
theorem order1_nodup : order1.Nodup := by decide +kernel
theorem order2_nodup : order2.Nodup := by decide +kernel
theorem order3_nodup : order3.Nodup := by decide +kernel
theorem order1_univ : Finset.univ = order1.toFinset := by decide +kernel
theorem order2_univ : Finset.univ = order2.toFinset := by decide +kernel
theorem order3_univ : Finset.univ = order3.toFinset := by decide +kernel

/-! ## The semaphores -/

/-- The kernel's own semaphores: of each block the send semaphore and the receive semaphores of the three steps; -/
abbrev XI : Type := QH × Option (Fin 3)
def osem : XI → SemLoc sig
  | ((q, h), none) => .dma (sSem q h)
  | ((q, h), some s) => .dma (rSem q s h)
/-- and these with the barrier semaphore. -/
abbrev KI : Type := Option XI
def csem : KI → SemLoc sig
  | none => .reg barS
  | some x => osem x

/-- Which of them a semaphore is. -/
def dec : SemLoc sig → Option KI
  | .reg s => if s = barS then some none else none
  | .dma i =>
    if i.val < 3 then none
    else if i.val < 35 then some (some ((Fin.ofNat 8 ((i.val - 3) / 4), Fin.ofNat 4 (i.val - 3)), none))
    else some (some ((Fin.ofNat 8 ((i.val - 35) / 12), Fin.ofNat 4 (i.val - 35)), some (Fin.ofNat 3 ((i.val - 35) / 4))))

theorem dec_osem (x : XI) : dec (osem x) = some (some x) := by revert x; decide +kernel
theorem dec_csem (k : KI) : dec (csem k) = some k := by
  rcases k with _ | x
  · decide +kernel
  · exact dec_osem x
theorem csem_injective : Function.Injective csem := fun k k' e => by
  have := congrArg dec e
  rw [dec_csem, dec_csem] at this
  exact Option.some.inj this
theorem osem_injective : Function.Injective osem := fun k k' e =>
  Option.some.inj (csem_injective (show csem (some k) = csem (some k') from e))

theorem ownSemFacts : Pipeline.OwnSemFacts cfg0.spec osem where
  isScoped := by decide +kernel
  inj := osem_injective
  disj := by decide +kernel

abbrev kcell (ck : Dev nD × KI) : GSem nD τ sig := ((ck.1 : Thread nD τ), csem ck.2)
abbrev barCell (c : Dev nD) : GSem nD τ sig := ((c : Thread nD τ), .reg barS)
abbrev sCell (c : Dev nD) (q : Fin 8) (h : Fin 4) : GSem nD τ sig := ((c : Thread nD τ), .dma (sSem q h))
abbrev rCell (c : Dev nD) (q : Fin 8) (s : Fin 3) (h : Fin 4) : GSem nD τ sig := ((c : Thread nD τ), .dma (rSem q s h))

theorem kcell_injective : Function.Injective (kcell : Dev nD × KI → GSem nD τ sig) := by
  rintro ⟨c, k⟩ ⟨c', k'⟩ e
  have h1 : c = c' := congrArg (fun g : GSem nD τ sig => g.1.1) e
  have h2 : k = k' := csem_injective (congrArg Prod.snd e)
  rw [h1, h2]

/-- The credit of one tile's transfer. -/
abbrev N : ℕ := (sV 0 0).view.dmaCredit
theorem N_pos : 0 < N := View.dmaCredit_pos _ (by decide)
theorem sV_amount (q : Fin 8) (h : Fin 4) : (sV q h).view.dmaCredit = N := rfl
theorem rV_amount (q : Fin 8) (s : Fin 3) (h : Fin 4) : (rV q s h).view.dmaCredit = N := rfl

end Cert.Cube
-- ==== Proof.Tiles.lean ====
/-
The tiles of the two scratch buffers.

The send buffer (8 row blocks of 256 x 2048) is cut into tiles `(q, h)` of 256 x 512, the receive buffer into tiles
`(q, s, h)`; the tiles of a buffer share no element and fill it. A tile is read as a matrix of 256 x 512: a load through
its rectangle reads that matrix with unit axes, and a store or a transfer through it leaves the matrix stored.
-/
module

public import proofs.«01_k».proof.Proof.Tables
public import Idealize.ShloMosaic.Lib.ValueLayout

@[expose] public section

noncomputable section

namespace Cert.Cube

open Cert.KernelIdeal Cert.KernelIdeal.Gen
open Idealize.ShloMosaic Idealize.ShloMosaic.TcCoe Idealize.ShloMosaic.ValueIdx

variable {F : FTy → Type} [FloatOps F]

/-- The matrix a tile holds. -/
abbrev T (F : FTy → Type) : Type := S256x512.Idx → Elt F .bf16

/-! ## The elements of a tile -/

theorem sV_set (q : Fin 8) (h : Fin 4) : (sV q h).view.set = (rectS q h).set :=
  (View.set_reshape _ _).trans (View.set_slice_whole _ _)
theorem rV_set (q : Fin 8) (s : Fin 3) (h : Fin 4) : (rV q s h).view.set = (rectR q s h).set :=
  (View.set_reshape _ _).trans (View.set_slice_whole _ _)

theorem mem_rectS (q : Fin 8) (h : Fin 4) (i : S8x256x2048.Idx) :
    i ∈ (rectS q h).set ↔ (i 0).val = q.val ∧ (i 2).val / 512 = h.val := by
  rw [Rect.mem_set_unit]
  constructor
  · intro H
    have h0 := H 0; have h2 := H 2
    change q.val ≤ (i 0).val ∧ (i 0).val < q.val + 1 at h0
    change 512 * h.val ≤ (i 2).val ∧ (i 2).val < 512 * h.val + 512 at h2
    omega
  · rintro ⟨h0, h2⟩ a
    have h1 : (i 1).val < 256 := (i 1).isLt
    fin_cases a
    · change q.val ≤ (i 0).val ∧ (i 0).val < q.val + 1; omega
    · change 0 ≤ (i 1).val ∧ (i 1).val < 0 + 256; omega
    · change 512 * h.val ≤ (i 2).val ∧ (i 2).val < 512 * h.val + 512; omega

theorem mem_rectR (q : Fin 8) (s : Fin 3) (h : Fin 4) (i : S8x3x256x2048.Idx) :
    i ∈ (rectR q s h).set ↔ (i 0).val = q.val ∧ (i 1).val = s.val ∧ (i 3).val / 512 = h.val := by
  rw [Rect.mem_set_unit]
  constructor
  · intro H
    have h0 := H 0; have h1 := H 1; have h3 := H 3
    change q.val ≤ (i 0).val ∧ (i 0).val < q.val + 1 at h0
    change s.val ≤ (i 1).val ∧ (i 1).val < s.val + 1 at h1
    change 512 * h.val ≤ (i 3).val ∧ (i 3).val < 512 * h.val + 512 at h3
    omega
  · rintro ⟨h0, h1, h3⟩ a
    have h2 : (i 2).val < 256 := (i 2).isLt
    fin_cases a
    · change q.val ≤ (i 0).val ∧ (i 0).val < q.val + 1; omega
    · change s.val ≤ (i 1).val ∧ (i 1).val < s.val + 1; omega
    · change 0 ≤ (i 2).val ∧ (i 2).val < 0 + 256; omega
    · change 512 * h.val ≤ (i 3).val ∧ (i 3).val < 512 * h.val + 512; omega

theorem mem_rectB (q : Fin 8) (i : S8x256x2048.Idx) : i ∈ (rectB q).set ↔ (i 0).val = q.val := by
  rw [Rect.mem_set_unit]
  constructor
  · intro H
    have h0 := H 0
    change q.val ≤ (i 0).val ∧ (i 0).val < q.val + 1 at h0
    omega
  · rintro h0 a
    have h1 : (i 1).val < 256 := (i 1).isLt
    have h2 : (i 2).val < 2048 := (i 2).isLt
    fin_cases a
    · change q.val ≤ (i 0).val ∧ (i 0).val < q.val + 1; omega
    · change 0 ≤ (i 1).val ∧ (i 1).val < 0 + 256; omega
    · change 0 ≤ (i 2).val ∧ (i 2).val < 0 + 2048; omega

theorem mem_rectO (h : Fin 4) (i : S256x2048.Idx) : i ∈ (rectO h).set ↔ (i 1).val / 512 = h.val := by
  rw [Rect.mem_set_unit]
  constructor
  · intro H
    have h1 := H 1
    change 512 * h.val ≤ (i 1).val ∧ (i 1).val < 512 * h.val + 512 at h1
    omega
  · rintro h1 a
    have h0 : (i 0).val < 256 := (i 0).isLt
    fin_cases a
    · change 0 ≤ (i 0).val ∧ (i 0).val < 0 + 256; omega
    · change 512 * h.val ≤ (i 1).val ∧ (i 1).val < 512 * h.val + 512; omega

theorem sV_disjoint (x y : QH) (e : x ≠ y) : Disjoint (rectS x.1 x.2).set (rectS y.1 y.2).set := by
  rw [Finset.disjoint_left]
  intro i hx hy
  rw [mem_rectS] at hx hy
  exact e (Prod.ext (Fin.ext (hx.1.symm.trans hy.1)) (Fin.ext (hx.2.symm.trans hy.2)))
theorem rV_disjoint (x y : QH × Fin 3) (e : x ≠ y) :
    Disjoint (rectR x.1.1 x.2 x.1.2).set (rectR y.1.1 y.2 y.1.2).set := by
  rw [Finset.disjoint_left]
  intro i hx hy
  rw [mem_rectR] at hx hy
  exact e (Prod.ext (Prod.ext (Fin.ext (hx.1.symm.trans hy.1)) (Fin.ext (hx.2.2.symm.trans hy.2.2)))
    (Fin.ext (hx.2.1.symm.trans hy.2.1)))

theorem sV_cover : (Finset.univ.biUnion fun x : QH => (rectS x.1 x.2).set) = Finset.univ := by
  refine Finset.eq_univ_iff_forall.mpr fun i => Finset.mem_biUnion.mpr ?_
  have h2 : (i 2).val < 2048 := (i 2).isLt
  exact ⟨(⟨(i 0).val, (i 0).isLt⟩, ⟨(i 2).val / 512, by omega⟩), Finset.mem_univ _, (mem_rectS _ _ _).mpr ⟨rfl, rfl⟩⟩
theorem rV_cover : (Finset.univ.biUnion fun x : QH × Fin 3 => (rectR x.1.1 x.2 x.1.2).set) = Finset.univ := by
  refine Finset.eq_univ_iff_forall.mpr fun i => Finset.mem_biUnion.mpr ?_
  have h3 : (i 3).val < 2048 := (i 3).isLt
  exact ⟨((⟨(i 0).val, (i 0).isLt⟩, ⟨(i 3).val / 512, by omega⟩), ⟨(i 1).val, (i 1).isLt⟩), Finset.mem_univ _,
    (mem_rectR _ _ _ _).mpr ⟨rfl, rfl, rfl⟩⟩
/-- The four tiles of row block `q`. -/
theorem rectB_eq (q : Fin 8) : (Finset.univ.biUnion fun h : Fin 4 => (rectS q h).set) = (rectB q).set := by
  ext i
  rw [Finset.mem_biUnion, mem_rectB]
  have h2 : (i 2).val < 2048 := (i 2).isLt
  constructor
  · rintro ⟨h, -, hi⟩; exact ((mem_rectS _ _ _).mp hi).1
  · intro h0; exact ⟨⟨(i 2).val / 512, by omega⟩, Finset.mem_univ _, (mem_rectS _ _ _).mpr ⟨h0, rfl⟩⟩
theorem rectO_disjoint (h h' : Fin 4) (e : h ≠ h') : Disjoint (rectO h).set (rectO h').set := by
  rw [Finset.disjoint_left]
  intro i hx hy
  rw [mem_rectO] at hx hy
  exact e (Fin.ext (hx.symm.trans hy))

/-! ## The values that move -/

/-- A tile's matrix in f32, an f32 matrix rounded to a tile. -/
def up (v : T F) : FVec F S256x512 .f32 := extf .f32 v bitsLt_bf16_f32
def down (a : FVec F S256x512 .f32) : T F := truncf .bf16 a bitsLt_bf16_f32
/-- Column quarter `h` of a block of x times w. -/
def partT (w : Vec F S256x2048 .bf16) (x : Vec F S256x256 .bf16) (h : Fin 4) : T F := fun i =>
  truncf .bf16 (matmul dot_S256x256_S256x2048_S256x2048_1_0_0_1_n_n none
    (shapeCast S256x256 x shapeCasts_S256x256_S256x256 : FVec F S256x256 .bf16)
    (shapeCast S256x2048 w shapeCasts_S256x2048_S256x2048 : FVec F S256x2048 .bf16)
    (constant S256x2048 .f32 0x00000000#32)) bitsLt_bf16_f32 ((rectO h).emb i)

theorem upS_read (q : Fin 8) (h : Fin 4) (f : (cc0_scratch0 : Ref sig .tc).ty.Contents (Elt F)) :
    upS (sM.view.readAt (Elt F) (rectS q h).toLoadRect f) = up ((sV q h).view.read (Elt F) f) := rfl
theorem upR_read (q : Fin 8) (s : Fin 3) (h : Fin 4) (f : (cc0_scratch1 : Ref sig .tc).ty.Contents (Elt F)) :
    upR (rM.view.readAt (Elt F) (rectR q s h).toLoadRect f) = up ((rV q s h).view.read (Elt F) f) := rfl

/-- A tile stored through its rectangle. -/
theorem read_storeS (q : Fin 8) (h : Fin 4) (f : (cc0_scratch0 : Ref sig .tc).ty.Contents (Elt F))
    (a : FVec F S256x512 .f32) :
    (sV q h).view.read (Elt F) ((sM.access (rectS q h)).write (Elt F) f (downS a) Finset.univ) = down a := by
  funext i
  have e : (sM.access (rectS q h)).read (Elt F) ((sM.access (rectS q h)).write (Elt F) f (downS a) Finset.univ)
      = downS a := View.read_write_univ _ _
  refine (congrFun e (Shape.reshapeEquiv squeezes_S1x256x512_S256x512.numel_eq i)).trans ?_
  show truncf .bf16 a bitsLt_bf16_f32 (Shape.reshapeEquiv _ (Shape.reshapeEquiv _ i)) = _
  rw [Shape.reshapeEquiv_reshapeEquiv, Shape.reshapeEquiv_self]
  rfl

/-- A row block stored: what its tiles then hold. -/
theorem read_storeB (q : Fin 8) (h : Fin 4) (f : (cc0_scratch0 : Ref sig .tc).ty.Contents (Elt F))
    (w : Vec F S256x2048 .bf16) (x : Vec F S256x256 .bf16) :
    (sV q h).view.read (Elt F) ((sM.access (rectB q)).write (Elt F) f (mmV w x) Finset.univ) = partT w x h := by
  funext i
  obtain ⟨a, b, rfl⟩ : ∃ (a : Fin 256) (b : Fin 512), i = ix2 a b := ⟨i 0, i 1, eq_ix2 i⟩
  have hb : 512 * h.val + b.val < 2048 := by have := h.isLt; have := b.isLt; omega
  have e1 : (rectS q h).emb (ix3 (0 : Fin 1) a b) = (rectB q).emb (ix3 (0 : Fin 1) a (⟨512 * h.val + b.val, hb⟩ : Fin 2048)) := by
    funext d; refine Fin.ext ?_
    rw [Rect.emb_apply, Rect.emb_apply]
    fin_cases d
    · rfl
    · rfl
    · show 512 * h.val + 1 * b.val = 0 + 1 * (512 * h.val + b.val); omega
  have e2 : (sV q h).view.read (Elt F) ((sM.access (rectB q)).write (Elt F) f (mmV w x) Finset.univ) (ix2 a b)
      = sM.view.read (Elt F) ((sM.access (rectB q)).write (Elt F) f (mmV w x) Finset.univ) ((rectS q h).emb (ix3 (0 : Fin 1) a b)) := by
    show sM.view.read (Elt F) _ ((rectS q h).emb (Shape.reshapeEquiv _ (ix2 a b))) = _
    rw [reshapeEquiv_ix2_1ab]; rfl
  rw [e2, e1]
  have e3 : ∀ y, sM.view.read (Elt F) ((sM.access (rectB q)).write (Elt F) f (mmV w x) Finset.univ) ((rectB q).emb y)
      = mmV w x y := fun y =>
    congrFun (View.read_write_univ (v := sM.access (rectB q)) f (mmV w x)) y
  rw [e3]
  show truncf _ _ _ (Shape.reshapeEquiv _ _) = truncf _ _ _ _
  refine congrArg (truncf .bf16 _ bitsLt_bf16_f32) ?_
  have e4 : (rectO h).emb (ix2 a b) = ix2 a (⟨512 * h.val + b.val, hb⟩ : Fin 2048) := by
    funext d; refine Fin.ext ?_
    rw [Rect.emb_apply]
    fin_cases d
    · show 0 + 1 * a.val = a.val; omega
    · show 512 * h.val + 1 * b.val = 512 * h.val + b.val; omega
  rw [e4]
  refine Shape.reshapeEquiv_eq_of_rowMajor _ ?_
  rw [Shape.rowMajor_val_three, Shape.rowMajor_val_two]
  show a.val * 2048 + (512 * h.val + b.val) = (0 * 256 + a.val) * 2048 + (512 * h.val + b.val)
  omega

/-! ## The result's quarters -/

theorem read_storeO (h : Fin 4) (f : (cc0_stg2_0 : Ref sig .tc).ty.Contents (Elt F)) (v : FVec F S256x512 .f32) :
    (oM.access (rectO h)).read (Elt F) ((oM.access (rectO h)).write (Elt F) f v Finset.univ) = v :=
  View.read_write_univ _ _
theorem read_storeO_ne (h h' : Fin 4) (e : h' ≠ h) (f : (cc0_stg2_0 : Ref sig .tc).ty.Contents (Elt F))
    (v : FVec F S256x512 .f32) :
    (oM.access (rectO h')).read (Elt F) ((oM.access (rectO h)).write (Elt F) f v Finset.univ)
      = (oM.access (rectO h')).read (Elt F) f :=
  View.read_congr fun _ hi => View.write_of_not_mem _ _ _ (Finset.disjoint_left.mp (by
    have e1 : ((oM.view).slice (rectO h')).set = (rectO h').set := View.set_slice_whole _ _
    have e2 : ((oM.view).slice (rectO h)).setOn Finset.univ = (rectO h).set :=
      (View.setOn_univ _).trans (View.set_slice_whole _ _)
    rw [e1, e2]
    exact rectO_disjoint h' h e) hi)

/-- The result from its four quarters. -/
def glueO (v : Fin 4 → FVec F S256x512 .f32) : (cc0_stg2_0 : Ref sig .tc).ty.Contents (Elt F) := fun i =>
  v ⟨(i 1).val / 512, by have : (i 1).val < 2048 := (i 1).isLt; omega⟩
    (ix2 (⟨(i 0).val, (i 0).isLt⟩ : Fin 256) (⟨(i 1).val % 512, Nat.mod_lt _ (by decide)⟩ : Fin 512))
theorem glueO_eq (v : Fin 4 → FVec F S256x512 .f32) (f : (cc0_stg2_0 : Ref sig .tc).ty.Contents (Elt F))
    (hf : ∀ h, (oM.access (rectO h)).read (Elt F) f = v h) : f = glueO v := by
  funext i
  unfold glueO
  rw [← hf]
  show f i = f ((rectO _).emb _)
  congr 1
  funext d; refine Fin.ext ?_
  rw [Rect.emb_apply]
  fin_cases d
  · show (i 0).val = 0 + 1 * (i 0).val; omega
  · show (i 1).val = 512 * ((i 1).val / 512) + 1 * ((i 1).val % 512); omega

end Cert.Cube
-- ==== Proof.Protocol.lean ====
/-
The protocol between the devices.

Every device's barrier semaphore is signalled once by each of its three neighbours. The neighbour along axis `a` hands
over, with its signal, those of its own receive tiles into which this device will send along `a`. A tile `(q, h)` leaves
device `c` at step `s = stp q h c`: it is added up in the send buffer and copied into tile `(q, s, h)` of the neighbour's
receive buffer. The copy's arrival credits the neighbour's receive semaphore `(q, s, h)` and hands it the tile with the
value sent; its departure credits the sender's send semaphore and gives the send tile back. A device waits on its barrier
before it sends anything, on the receive semaphore of step `s` before it sends at a later step, and on its send
semaphores when it owes nothing. So every wait stands below everything its waiter still owes: barrier at 1, the receive
semaphores of step `s` at `2 + s`, the rest at 0.
-/
module

public import proofs.«01_k».proof.Proof.Tiles
public import Idealize.ShloMosaic.Lib.Pipeline.BigSepL

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the cube's, whose duties are the axes -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The values -/

/-- What the devices' staging buffers hold: every device's block of x and block of w. -/
structure Data (F : FTy → Type) where
  x : Dev nD → (cc0_stg0_0 : Ref sig .tc).ty.Contents (Elt F)
  w : Dev nD → (cc0_stg1_0 : Ref sig .tc).ty.Contents (Elt F)

variable (D : Data F)

def Data.wV (c : Dev nD) : Vec F S256x2048 .bf16 := wM.view.readAt (Elt F) rectW.toLoadRect (D.w c)
def Data.xV (q : Fin 8) (c : Dev nD) : Vec F S256x256 .bf16 := xM.view.readAt (Elt F) (rectX q).toLoadRect (D.x c)
/-- Device `c`'s partial product in tile `(q, h)`. -/
def Data.part (q : Fin 8) (h : Fin 4) (c : Dev nD) : T F := partT (D.wV c) (D.xV q c) h
/-- What a device sends of tile `(q, h)` at steps 0, 1 and 2. -/
def Data.sent0 (q : Fin 8) (h : Fin 4) (c : Dev nD) : T F := D.part q h c
def Data.sent1 (q : Fin 8) (h : Fin 4) (c : Dev nD) : T F :=
  down (addf (up (D.part q h c)) (up (D.sent0 q h (nbD (ax q h 0) c))))
def Data.sent2 (q : Fin 8) (h : Fin 4) (c : Dev nD) : T F :=
  down (addf (addf (up (D.part q h c)) (up (D.sent0 q h (nbD (ax q h 0) c)))) (up (D.sent1 q h (nbD (ax q h 1) c))))
def Data.sent (q : Fin 8) (h : Fin 4) (s : Fin 3) (c : Dev nD) : T F :=
  match s with
  | 0 => D.sent0 q h c
  | 1 => D.sent1 q h c
  | 2 => D.sent2 q h c
/-- What arrives in tile `(q, s, h)` of device `c`. -/
def Data.inV (q : Fin 8) (s : Fin 3) (h : Fin 4) (c : Dev nD) : T F := D.sent q h s (nbD (ax q h s) c)
/-- The owner's tile after the first and after the second arrival, and the result's quarter. -/
def Data.acc1 (q : Fin 8) (h : Fin 4) (c : Dev nD) : T F := down (addf (up (D.part q h c)) (up (D.inV q 0 h c)))
def Data.acc2 (q : Fin 8) (h : Fin 4) (c : Dev nD) : T F := down (addf (up (D.acc1 q h c)) (up (D.inV q 1 h c)))
def Data.outT (q : Fin 8) (h : Fin 4) (c : Dev nD) : FVec F S256x512 .f32 :=
  addf (up (D.acc2 q h c)) (up (D.inV q 2 h c))
/-- The row block that device `c` keeps. -/
def own (c : Dev nD) : Fin 8 := ⟨c.val, c.isLt⟩
/-- Device `c`'s result. -/
def Data.outV (c : Dev nD) : (cc0_stg2_0 : Ref sig .tc).ty.Contents (Elt F) := glueO fun h => D.outT (own c) h c

/-! ## Tiles held -/

/-- Tile `(q, h)` of device `c`'s send buffer holding the matrix `v`; holding anything. -/
def sT (c : Dev nD) (q : Fin 8) (h : Fin 4) (v : T F) : sProp 𝕄 :=
  iprop(∃ f : Buf (Elt F) ((sV q h).view.loc (c : Thread nD τ)), ⌜(sV q h).view.read (Elt F) f = v⌝
    ∗ ((sV q h).view.loc (c : Thread nD τ) ↦[(sV q h).view.set]{fullShare} f))
def sAny (c : Dev nD) (q : Fin 8) (h : Fin 4) : sProp 𝕄 :=
  iprop(∃ f : Buf (Elt F) ((sV q h).view.loc (c : Thread nD τ)),
    ((sV q h).view.loc (c : Thread nD τ) ↦[(sV q h).view.set]{fullShare} f))
/-- Tile `(q, s, h)` of device `c`'s receive buffer holding `v`; holding anything. -/
def rT (c : Dev nD) (q : Fin 8) (s : Fin 3) (h : Fin 4) (v : T F) : sProp 𝕄 :=
  iprop(∃ f : Buf (Elt F) ((rV q s h).view.loc (c : Thread nD τ)), ⌜(rV q s h).view.read (Elt F) f = v⌝
    ∗ ((rV q s h).view.loc (c : Thread nD τ) ↦[(rV q s h).view.set]{fullShare} f))
def rAny (c : Dev nD) (q : Fin 8) (s : Fin 3) (h : Fin 4) : sProp 𝕄 :=
  iprop(∃ f : Buf (Elt F) ((rV q s h).view.loc (c : Thread nD τ)),
    ((rV q s h).view.loc (c : Thread nD τ) ↦[(rV q s h).view.set]{fullShare} f))

omit [FloatOps F] in
instance sT_storable (c : Dev nD) (q h) (v : T F) : BI.Storable (upEmb : UEmb _ 𝕄) (sT c q h v) := by
  unfold sT; infer_instance
omit [FloatOps F] in
instance sAny_storable (c : Dev nD) (q h) : BI.Storable (upEmb : UEmb _ 𝕄) (sAny (F := F) c q h) := by
  unfold sAny; infer_instance
omit [FloatOps F] in
instance rT_storable (c : Dev nD) (q s h) (v : T F) : BI.Storable (upEmb : UEmb _ 𝕄) (rT c q s h v) := by
  unfold rT; infer_instance
omit [FloatOps F] in
instance rAny_storable (c : Dev nD) (q s h) : BI.Storable (upEmb : UEmb _ 𝕄) (rAny (F := F) c q s h) := by
  unfold rAny; infer_instance

/-! ## The schedule -/

/-- What the neighbour of `c` along `a` hands over with its signal, tile by tile. -/
def payAt (c : Dev nD) (a : Fin 3) (x : QH × Fin 3) : sProp 𝕄 :=
  if stp x.1.1 x.1.2 c = x.2.val ∧ ax x.1.1 x.1.2 x.2 = a then rAny (nbD a c) x.1.1 x.2 x.1.2 else iprop(emp)
def barPay (c : Dev nD) (a : Fin 3) : sProp 𝕄 := bigSep Finset.univ fun x : QH × Fin 3 => payAt c a x

omit [FloatOps F] in
instance barPay_storable (c : Dev nD) (a : Fin 3) : BI.Storable (upEmb : UEmb _ 𝕄) (barPay (F := F) c a) := by
  unfold barPay
  have : ∀ x, BI.Storable (upEmb : UEmb _ 𝕄) (payAt (F := F) c a x) := fun x => by
    unfold payAt; split <;> infer_instance
  infer_instance

/-- The duties of a device's semaphores: three signals to the barrier, one credit to the send semaphore of a tile that
    leaves and to each receive semaphore before that. -/
def kduties (c : Dev nD) : KI → Finset (Fin 3)
  | none => Finset.univ
  | some ((q, h), none) => if stp q h c < 3 then {0} else ∅
  | some ((q, h), some s) => if s.val < stp q h c then {0} else ∅
def kpay (c : Dev nD) : KI → Fin 3 → sProp 𝕄
  | none, a => barPay c a
  | some ((q, h), none), _ => sAny c q h
  | some ((q, h), some s), _ => rT c q s h (D.inV q s h c)

instance kpay_storable (c : Dev nD) (k : KI) (d : Fin 3) : BI.Storable (upEmb : UEmb _ 𝕄) (kpay D c k d) := by
  rcases k with _ | ⟨⟨q, h⟩, _ | s⟩ <;> (unfold kpay; infer_instance)

def sch : Rounds.Schedule (GSem nD τ sig) (Fin 3) 𝕄 where
  duties g r := if r = 0 ∧ g.1.2 = .tc then (match dec g.2 with | none => ∅ | some k => kduties g.1.1 k) else ∅
  unitless _ := False
  amount g _ _ := if g.2 = .reg barS then 1 else N
  payload g _ d := if g.1.2 = .tc then (match dec g.2 with | none => iprop(emp) | some k => kpay D g.1.1 k d) else iprop(emp)
  amount_pos g _ _ _ := by
    by_cases h : g.2 = .reg barS
    · rw [if_pos h]; exact Nat.one_pos
    · rw [if_neg h]; exact N_pos

instance sch_storable (g : GSem nD τ sig) (r : ℕ) (d : Fin 3) :
    BI.Storable (upEmb : UEmb _ 𝕄) ((sch D).payload g r d) := by
  dsimp only [sch]
  split
  · split <;> infer_instance
  · infer_instance

theorem duties_later (g : GSem nD τ sig) : ∀ r, 1 ≤ r → (sch D).duties g r = ∅ :=
  fun r hr => by dsimp only [sch]; exact if_neg fun h => by omega
theorem duties_k (c : Dev nD) (k : KI) : (sch D).duties (kcell (c, k)) 0 = kduties c k := by
  dsimp only [sch]; rw [if_pos ⟨rfl, rfl⟩, dec_csem]
theorem payload_k (c : Dev nD) (k : KI) (d : Fin 3) : (sch D).payload (kcell (c, k)) 0 d = kpay D c k d := by
  dsimp only [sch]; rw [if_pos rfl, dec_csem]
theorem amount_k (c : Dev nD) (x : XI) (d : Fin 3) : (sch D).amount (kcell (c, some x)) 0 d = N := by
  dsimp only [sch]
  exact if_neg fun h => by
    have := csem_injective (show csem (some x) = csem none from h)
    cases this
theorem amount_bar (c : Dev nD) (d : Fin 3) : (sch D).amount (barCell c) 0 d = 1 := by dsimp only [sch]; exact if_pos rfl

theorem duties_bar (c : Dev nD) : (sch D).duties (barCell c) 0 = Finset.univ := duties_k D c none
theorem duties_s (c : Dev nD) (q : Fin 8) (h : Fin 4) (e : stp q h c < 3) : (sch D).duties (sCell c q h) 0 = {0} :=
  (duties_k D c (some ((q, h), none))).trans (if_pos e)
theorem duties_r (c : Dev nD) (q : Fin 8) (s : Fin 3) (h : Fin 4) (e : s.val < stp q h c) :
    (sch D).duties (rCell c q s h) 0 = {0} :=
  (duties_k D c (some ((q, h), some s))).trans (if_pos e)
theorem duties_s_none (c : Dev nD) (q : Fin 8) (h : Fin 4) (e : ¬ stp q h c < 3) : ∀ r, 0 ≤ r → (sch D).duties (sCell c q h) r = ∅ := by
  rintro (_ | r) -
  · exact (duties_k D c (some ((q, h), none))).trans (if_neg e)
  · exact duties_later D _ _ (by omega)
theorem duties_r_none (c : Dev nD) (q : Fin 8) (s : Fin 3) (h : Fin 4) (e : ¬ s.val < stp q h c) :
    ∀ r, 0 ≤ r → (sch D).duties (rCell c q s h) r = ∅ := by
  rintro (_ | r) -
  · exact (duties_k D c (some ((q, h), some s))).trans (if_neg e)
  · exact duties_later D _ _ (by omega)
theorem amount_s (c : Dev nD) (q : Fin 8) (h : Fin 4) (d : Fin 3) : (sch D).amount (sCell c q h) 0 d = N :=
  amount_k D c ((q, h), none) d
theorem amount_r (c : Dev nD) (q : Fin 8) (s : Fin 3) (h : Fin 4) (d : Fin 3) : (sch D).amount (rCell c q s h) 0 d = N :=
  amount_k D c ((q, h), some s) d
theorem payload_bar (c : Dev nD) (a : Fin 3) : (sch D).payload (barCell c) 0 a = barPay c a := payload_k D c none a
theorem payload_s (c : Dev nD) (q : Fin 8) (h : Fin 4) (d : Fin 3) : (sch D).payload (sCell c q h) 0 d = sAny c q h :=
  payload_k D c (some ((q, h), none)) d
theorem payload_r (c : Dev nD) (q : Fin 8) (s : Fin 3) (h : Fin 4) (d : Fin 3) :
    (sch D).payload (rCell c q s h) 0 d = rT c q s h (D.inV q s h c) := payload_k D c (some ((q, h), some s)) d

theorem expect_bar (c : Dev nD) : (sch D).expect (barCell c) 0 = 3 := by
  unfold Schedule.expect Schedule.amountOf
  rw [duties_bar, Finset.sum_congr rfl fun d _ => amount_bar D c d, Finset.sum_const, Finset.card_univ, Fintype.card_fin, smul_eq_mul]
theorem expect_s (c : Dev nD) (q : Fin 8) (h : Fin 4) (e : stp q h c < 3) : (sch D).expect (sCell c q h) 0 = N := by
  unfold Schedule.expect Schedule.amountOf; rw [duties_s D c q h e, Finset.sum_singleton, amount_s]
theorem expect_r (c : Dev nD) (q : Fin 8) (s : Fin 3) (h : Fin 4) (e : s.val < stp q h c) :
    (sch D).expect (rCell c q s h) 0 = N := by
  unfold Schedule.expect Schedule.amountOf; rw [duties_r D c q s h e, Finset.sum_singleton, amount_r]

theorem rest_bar (c : Dev nD) :
    bigSep ((sch D).duties (barCell c) 0 \ ∅) (fun d => (sch D).payload (barCell c) 0 d) = bigSep Finset.univ fun a => barPay c a := by
  rw [Finset.sdiff_empty, duties_bar]; exact bigSep_congr fun a _ => payload_bar D c a
theorem rest_s (c : Dev nD) (q : Fin 8) (h : Fin 4) (e : stp q h c < 3) :
    bigSep ((sch D).duties (sCell c q h) 0 \ ∅) (fun d => (sch D).payload (sCell c q h) 0 d) = sAny c q h := by
  rw [Finset.sdiff_empty, duties_s D c q h e, bigSep_singleton, payload_s]
theorem rest_r (c : Dev nD) (q : Fin 8) (s : Fin 3) (h : Fin 4) (e : s.val < stp q h c) :
    bigSep ((sch D).duties (rCell c q s h) 0 \ ∅) (fun d => (sch D).payload (rCell c q s h) 0 d) = rT c q s h (D.inV q s h c) := by
  rw [Finset.sdiff_empty, duties_r D c q s h e, bigSep_singleton, payload_r]

/-! ## What is owed -/

abbrev Tal : Type := CellTallies nD τ sig Unit

/-- What device `c` owes for tile `(q, h)` if it leaves at step `t`: the neighbour's receive semaphore. -/
def owe1 (c : Dev nD) (t : Fin 3) (x : QH) : Tal :=
  if stp x.1 x.2 c = t.val then tallyAt (rCell (nbD (ax x.1 x.2 t) c) x.1 t x.2) () N else 0
/-- The same for a list of tiles. -/
def oweL (c : Dev nD) (t : Fin 3) : List QH → Tal
  | [] => 0
  | x :: l => oweL c t l + owe1 c t x
theorem oweL_append (c : Dev nD) (t : Fin 3) (l l' : List QH) : oweL c t (l ++ l') = oweL c t l' + oweL c t l := by
  induction l with
  | nil => exact (add_zero _).symm
  | cons x l ih => show oweL c t (l ++ l') + _ = oweL c t l' + (oweL c t l + _); rw [ih, add_assoc]
theorem oweL_eq_sum (c : Dev nD) (t : Fin 3) (l : List QH) : oweL c t l = (l.map (owe1 c t)).sum := by
  induction l with
  | nil => rfl
  | cons x l ih => show oweL c t l + _ = _; rw [ih, List.map_cons, List.sum_cons, add_comm]

def Osend (c : Dev nD) : Tal := oweL c 0 order1 + (oweL c 1 order2 + oweL c 2 order3)
def O₀ (c : Dev nD) : Tal :=
  ((Osend c + tallyAt (barCell (nbD 2 c)) () 1) + tallyAt (barCell (nbD 1 c)) () 1) + tallyAt (barCell (nbD 0 c)) () 1

/-! ## The levels -/

def L (g : GSem nD τ sig) : Finset Unit := if g.1.2 = .tc then {()} else ∅
def lv (g : GSem nD τ sig) (_ : Unit) : ℕ :=
  match dec g.2 with
  | some none => 1
  | some (some (_, some s)) => 2 + s.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by
  unfold lv; rw [show dec (barCell c).2 = some none from dec_csem none]
theorem lv_r (c : Dev nD) (q : Fin 8) (s : Fin 3) (h : Fin 4) : lv (rCell c q s h) () = 2 + s.val := by
  unfold lv; rw [show dec (rCell c q s h).2 = some (some ((q, h), some s)) from dec_csem (some ((q, h), some s))]
theorem lv_s (c : Dev nD) (q : Fin 8) (h : Fin 4) : lv (sCell c q h) () = 0 := by
  unfold lv; rw [show dec (sCell c q h).2 = some (some ((q, h), none)) from dec_csem (some ((q, h), none))]

/-- Everything in `O` is owed to a semaphore of a level above `b`. -/
def Above (b : ℕ) (O : Tal) : Prop := ∀ g u, 0 < O g u → g.1.2 = .tc ∧ b < lv g u

theorem Above.zero (b : ℕ) : Above b 0 := fun g u h => absurd h (Nat.lt_irrefl 0)
theorem Above.add {b : ℕ} {O O' : Tal} (h : Above b O) (h' : Above b O') : Above b (O + O') := fun g u hp => by
  rw [Pi.add_apply, Finsupp.add_apply] at hp
  rcases Nat.eq_zero_or_pos (O g u) with h0 | h0
  · exact h' g u (by omega)
  · exact h g u h0
theorem Above.tally {b : ℕ} {g : GSem nD τ sig} {n : ℕ} (h : g.1.2 = .tc) (h' : b < lv g ()) : Above b (tallyAt g () n) :=
  fun g' u hp => by
    rw [tallyAt_apply] at hp
    by_cases e : g' = g ∧ u = ()
    · rw [e.1, e.2]; exact ⟨h, h'⟩
    · rw [if_neg e] at hp; exact absurd hp (Nat.lt_irrefl 0)
theorem Above.one {b : ℕ} (c : Dev nD) (t : Fin 3) (x : QH) (h : b < 2 + t.val) : Above b (owe1 c t x) := by
  unfold owe1
  split
  · exact Above.tally rfl (by rw [lv_r]; exact h)
  · exact Above.zero b
theorem Above.list {b : ℕ} (c : Dev nD) (t : Fin 3) (l : List QH) (h : b < 2 + t.val) : Above b (oweL c t l) := by
  induction l with
  | nil => exact Above.zero b
  | cons x l ih => exact ih.add (Above.one c t x h)
theorem Above.send (c : Dev nD) : Above 1 (Osend c) :=
  (Above.list c 0 _ (by decide)).add ((Above.list c 1 _ (by decide)).add (Above.list c 2 _ (by decide)))
theorem Above.start (c : Dev nD) : Above 0 (O₀ c) := by
  have hs : Above 0 (Osend c) := fun g u h => ⟨(Above.send c g u h).1, Nat.lt_trans Nat.zero_lt_one (Above.send c g u h).2⟩
  have hb : ∀ d, Above 0 (tallyAt (barCell d) () 1) := fun d => Above.tally rfl (by rw [lv_bar]; decide)
  exact ((hs.add (hb _)).add (hb _)).add (hb _)

omit [FloatOps F] in
/-- A wait on a semaphore of a level at most `b` is allowed to a device all of whose debts are above `b`. -/
theorem mayWait_of (c : Dev nD) (sm : SemLoc sig) (b : ℕ) (hb : lv ((c : Thread nD τ), sm) () ≤ b) (O : Tal) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

/-! ## What every device knows -/

/-- The invariants of all the semaphores, and that all are at round 0. -/
def records (K : Dev nD × KI → ℕ) : sProp 𝕄 :=
  iprop((bigSep Finset.univ fun ck : Dev nD × KI => cellInv ER (sch D) (K ck) (kcell ck))
    ∗ bigSep Finset.univ fun ck : Dev nD × KI => reached ER (kcell ck) 0)
instance records_persistent (K : Dev nD × KI → ℕ) : BI.Persistent (records D K) := by unfold records; infer_instance
/-- These and the levels. -/
def Ctx (K : Dev nD × KI → ℕ) : sProp 𝕄 := iprop(records D K ∗ levAts L lv)
instance Ctx_persistent (K : Dev nD × KI → ℕ) : BI.Persistent (Ctx D K) := by unfold Ctx; infer_instance

theorem Ctx_inv (K : Dev nD × KI → ℕ) (ck : Dev nD × KI) : Ctx D K ⊢ cellInv ER (sch D) (K ck) (kcell ck) := by
  have e : (bigSep Finset.univ fun ck : Dev nD × KI => (cellInv ER (sch D) (K ck) (kcell ck) : sProp 𝕄))
      ⊢ cellInv ER (sch D) (K ck) (kcell ck) := bigSep_elim (Finset.mem_univ ck)
  unfold Ctx records
  iintro ⟨⟨H, -⟩, -⟩
  iapply e
  iexact H
theorem Ctx_reached (K : Dev nD × KI → ℕ) (ck : Dev nD × KI) : Ctx D K ⊢ reached ER (kcell ck) 0 := by
  have e : (bigSep Finset.univ fun ck : Dev nD × KI => (reached ER (kcell ck) 0 : sProp 𝕄))
      ⊢ reached ER (kcell ck) 0 := bigSep_elim (Finset.mem_univ ck)
  unfold Ctx records
  iintro ⟨⟨-, H⟩, -⟩
  iapply e
  iexact H
theorem Ctx_lev (K : Dev nD × KI → ℕ) : Ctx D K ⊢ levAts L lv := by
  unfold Ctx
  iintro ⟨-, H⟩
  iexact H

/-- Device `c` owes `O` (whatever waits it has recorded). -/
def owesX (c : Dev nD) (O : Tal) : sProp 𝕄 := iprop(∃ W, owes (c : Thread nD τ) O W)

end Cert.Cube
-- ==== Proof.StepWp.lean ====
/-
What each step of the body does: the rules of the waits, of the transfer and of the additions.
-/
module

public import proofs.«01_k».proof.Proof.Protocol

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` may run the program `p`, and then `Q` holds. -/
abbrev WP (c : Dev nD) {α : Type} (p : KP F α) (Q : α → sProp 𝕄) : sProp 𝕄 :=
  wp frame (wpE (defs₀ (F := F)) 𝒱₀ (c : Thread nD τ) none) Set.univ p Q

variable (D : Data F) (K : Dev nD × KI → ℕ) (c : Dev nD)

/-! ## Waits -/

/-- The wait for an arrival: the receive tile with what the neighbour sent; the semaphore is closed at zero. -/
theorem waitR_spec (q : Fin 8) (s : Fin 3) (h : Fin 4) (e : s.val < stp q h c) (O : Tal) (hO : Above (2 + s.val) O) :
    iprop(Ctx D K ∗ (atPos ER (rCell c q s h) 0 ∅ 0 ∗ cred (tallyAt (rCell c q s h) () N)) ∗ owesX c O)
      ⊢ WP c (waitR q s h) (fun _ => iprop((rT c q s h (D.inV q s h c) ∗ semVal (rCell c q s h) 0) ∗ owesX c O)) := by
  unfold waitR WP owesX
  simp only [Prog.lift]
  iintro ⟨#HC, ⟨Hat, Hc⟩, ⟨%W, HO⟩⟩
  ihave #HI := (Ctx_inv D K (c, some ((q, h), some s))) $$ HC
  iapply (Rounds.wp_wait_rest_token 𝒱₀ ER (sch D) (c : Thread nD τ) none (κ := K (c, some ((q, h), some s)))
      (wpE_waitDma2_eq 𝒱₀ (c : Thread nD τ) none Set.univ) (Set.mem_univ _) () (O := O) (W := W) (R := 0) (m := 0) (T := ∅)
      (by rw [Nat.zero_add]; exact (expect_r D c q s h e).symm)) $$ [Hc HO Hat]
  · isplitr; · iexact HI
    isplitl [Hc]; · iexact Hc
    isplitl [HO]; · iexact HO
    isplitr
    · iapply (mayWait_of c (.dma (rSem q s h)) (2 + s.val) (le_of_eq (lv_r c q s h)) O hO)
      iapply (Ctx_lev D K); iexact HC
    iexact Hat
  iintro ⟨HO, Hat, -, Hpay⟩
  ihave Hp := (Entails.of_eq (rest_r D c q s h e)) $$ Hpay
  imod (Rounds.cell_close ER (sch D) (Set.mem_univ (K (c, some ((q, h), some s)))) (fun h => h) (R := 0 + 1) (duties_later D (rCell c q s h))) $$ [Hat] with Hz
  · isplitr; · iexact HI
    iexact Hat
  rw [wp_ret]; imodintro
  isplitl [Hp Hz]
  · isplitl [Hp]; · iexact Hp
    iexact Hz
  iexists _; iexact HO

/-- The wait for a departure: the send tile back; the semaphore is closed at zero. -/
theorem waitS_spec (q : Fin 8) (h : Fin 4) (e : stp q h c < 3) :
    iprop(Ctx D K ∗ (atPos ER (sCell c q h) 0 ∅ 0 ∗ cred (tallyAt (sCell c q h) () N)) ∗ owesX c 0)
      ⊢ WP c (waitS q h) (fun _ => iprop((sAny c q h ∗ semVal (sCell c q h) 0) ∗ owesX c 0)) := by
  unfold waitS WP owesX
  simp only [Prog.lift]
  iintro ⟨#HC, ⟨Hat, Hc⟩, ⟨%W, HO⟩⟩
  ihave #HI := (Ctx_inv D K (c, some ((q, h), none))) $$ HC
  iapply (Rounds.wp_wait_rest_token 𝒱₀ ER (sch D) (c : Thread nD τ) none (κ := K (c, some ((q, h), none)))
      (wpE_waitDma2_eq 𝒱₀ (c : Thread nD τ) none Set.univ) (Set.mem_univ _) () (O := 0) (W := W) (R := 0) (m := 0) (T := ∅)
      (by rw [Nat.zero_add]; exact (expect_s D c q h e).symm)) $$ [Hc HO Hat]
  · isplitr; · iexact HI
    isplitl [Hc]; · iexact Hc
    isplitl [HO]; · iexact HO
    isplitr
    · rw [MayWait_zero]; iempintro
    iexact Hat
  iintro ⟨HO, Hat, -, Hpay⟩
  ihave Hp := (Entails.of_eq (rest_s D c q h e)) $$ Hpay
  imod (Rounds.cell_close ER (sch D) (Set.mem_univ (K (c, some ((q, h), none)))) (fun h => h) (R := 0 + 1) (duties_later D (sCell c q h))) $$ [Hat] with Hz
  · isplitr; · iexact HI
    iexact Hat
  rw [wp_ret]; imodintro
  isplitl [Hp Hz]
  · isplitl [Hp]; · iexact Hp
    iexact Hz
  iexists _; iexact HO

/-- The wait on the barrier: the tiles of all three neighbours that this device will write. -/
theorem barWait_spec (O : Tal) (hO : Above 1 O) :
    iprop(Ctx D K ∗ (atPos ER (barCell c) 0 ∅ 0 ∗ cred (tallyAt (barCell c) () 3)) ∗ owesX c O)
      ⊢ WP c barWait (fun _ => iprop(((bigSep Finset.univ fun a => barPay c a) ∗ semVal (barCell c) 0) ∗ owesX c O)) := by
  unfold barWait WP owesX
  simp only [semWaitWord, Prog.lift]
  iintro ⟨#HC, ⟨Hat, Hc⟩, ⟨%W, HO⟩⟩
  ihave #HI := (Ctx_inv D K (c, none)) $$ HC
  iapply (Rounds.wp_wait_rest_token 𝒱₀ ER (sch D) (c : Thread nD τ) none (κ := K (c, none))
      (wpE_semWait_eq 𝒱₀ (c : Thread nD τ) none Set.univ) (Set.mem_univ _) () (O := O) (W := W) (R := 0) (m := 0) (T := ∅)
      (by rw [Nat.zero_add]; exact (expect_bar D c).symm)) $$ [Hc HO Hat]
  · isplitr; · iexact HI
    isplitl [Hc]; · iexact Hc
    isplitl [HO]; · iexact HO
    isplitr
    · iapply (mayWait_of c (.reg barS) 1 (le_of_eq (lv_bar c)) O hO)
      iapply (Ctx_lev D K); iexact HC
    iexact Hat
  iintro ⟨HO, Hat, -, Hpay⟩
  ihave Hp := (Entails.of_eq (rest_bar D c)) $$ Hpay
  imod (Rounds.cell_close ER (sch D) (Set.mem_univ (K (c, none))) (fun h => h) (R := 0 + 1) (duties_later D (barCell c))) $$ [Hat] with Hz
  · isplitr; · iexact HI
    iexact Hat
  rw [wp_ret]; imodintro
  isplitl [Hp Hz]
  · isplitl [Hp]; · iexact Hp
    iexact Hz
  iexists _; iexact HO

/-! ## The transfer -/

/-- The tile that has landed at the neighbour is the neighbour's arrival. -/
theorem landed (q : Fin 8) (s : Fin 3) (h : Fin 4) (n : Dev nD) (hn : c = nbD (ax q h s) n)
    (fd : Buf (Elt F) ((rV q s h).view.loc (n : Thread nD τ))) (v : T F) (hv : v = D.sent q h s c) :
    ((rV q s h).view.loc (n : Thread nD τ) ↦[(rV q s h).view.set]{fullShare} ((rV q s h).view.write (Elt F) fd v Finset.univ) : sProp 𝕄)
      ⊢ rT n q s h (D.inV q s h n) := by
  unfold rT Data.inV
  rw [← hn, ← hv]
  iintro H
  iexists ((rV q s h).view.write (Elt F) fd v Finset.univ)
  isplitr
  · ipureintro; exact View.read_write_univ _ _
  iexact H

theorem send_spec (q : Fin 8) (s : Fin 3) (h : Fin 4) (e : stp q h c = s.val) (O : Tal) :
    iprop(Ctx D K ∗ sT c q h (D.sent q h s c) ∗ rAny (nbD (ax q h s) c) q s h
        ∗ dutyTok ER (rCell (nbD (ax q h s) c) q s h) 0 0 ∗ dutyTok ER (sCell c q h) 0 0
        ∗ owesX c (O + tallyAt (rCell (nbD (ax q h s) c) q s h) () N))
      ⊢ WP c (send q s h c) (fun _ => iprop(cred (tallyAt (sCell c q h) () N) ∗ owesX c O)) := by
  have e3 : stp q h c < 3 := by rw [e]; exact s.isLt
  have en : s.val < stp q h (nbD (ax q h s) c) := (stp_nb q h s _).mp (by rw [nb_nb]; exact e)
  unfold send WP owesX sT rAny
  simp only [Prog.lift]
  iintro ⟨#HC, ⟨%fs, %hfs, Hs⟩, ⟨%fd, Hd⟩, HtR, HtS, ⟨%W, HO⟩⟩
  ihave #HIs := (Ctx_inv D K (c, some ((q, h), none))) $$ HC
  ihave #HIr := (Ctx_inv D K (nbD (ax q h s) c, some ((q, h), some s))) $$ HC
  ihave #HRs := (Ctx_reached D K (c, some ((q, h), none))) $$ HC
  ihave #HRr := (Ctx_reached D K (nbD (ax q h s) c, some ((q, h), some s))) $$ HC
  have hd₁ : (0 : Fin 3) ∈ (sch D).duties (sCell c q h) 0 := by
    rw [duties_s D c q h e3]; exact Finset.mem_singleton_self _
  have hd₂ : (0 : Fin 3) ∈ (sch D).duties (rCell (nbD (ax q h s) c) q s h) 0 := by
    rw [duties_r D _ q s h en]; exact Finset.mem_singleton_self _
  have hp₁ : ((sV q h).view.loc (c : Thread nD τ) ↦[(sV q h).view.set]{fullShare} fs : sProp 𝕄)
      ⊢ (sch D).payload (sCell c q h) 0 0 := by
    rw [payload_s D c q h 0]; unfold sAny
    iintro H; iexists fs; iexact H
  have hp₂ : ((rV q s h).view.loc (nbD (ax q h s) c : Thread nD τ) ↦[(rV q s h).view.set]{fullShare}
        ((rV q s h).view.write (Elt F) fd ((sV q h).view.read (Elt F) fs) Finset.univ) : sProp 𝕄)
      ⊢ (sch D).payload (rCell (nbD (ax q h s) c) q s h) 0 0 := by
    rw [payload_r D (nbD (ax q h s) c) q s h 0]
    exact landed D c q s h _ (nb_nb _ _).symm fd _ hfs
  iapply (Rounds.wp_send_pointsTo 𝒱₀ ER (sch D) (c : Thread nD τ) none (c' := (nbD (ax q h s) c : Thread nD τ))
      (src := sV q h) (dst := rV q s h)
      (κ₁ := K (c, some ((q, h), none))) (κ₂ := K (nbD (ax q h s) c, some ((q, h), some s)))
      (r₁ := 0) (r₂ := 0) (d₁ := 0) (d₂ := 0) (fd := fd) hd₁ hd₂ () () N (rV_amount q s h)
      (amount_s D c q h 0) (amount_r D (nbD (ax q h s) c) q s h 0) O rfl (W := W) hp₁ hp₂) $$ [Hs Hd HO HtS HtR]
  · isplitr; · iexact HIs
    isplitr; · iexact HIr
    isplitl [Hs]; · iexact Hs
    isplitl [Hd]; · iexact Hd
    isplitl [HO]; · iexact HO
    isplitl [HtS]; · iexact HtS
    isplitr; · iexact HRs
    isplitl [HtR]; · iexact HtR
    iexact HRr
  iintro ⟨Hc, HO⟩
  rw [wp_ret]; imodintro
  isplitl [Hc]; · iexact Hc
  iexists _; iexact HO

/-! ## Additions -/

omit [FloatOps F] in
theorem accS_sub (q : Fin 8) (h : Fin 4) : (sM.access (rectS q h)).set ⊆ (sV q h).view.set := by
  rw [sV_set]; exact (View.set_slice_whole _ _).subset
omit [FloatOps F] in
theorem accR_sub (q : Fin 8) (s : Fin 3) (h : Fin 4) : (rM.access (rectR q s h)).set ⊆ (rV q s h).view.set := by
  rw [rV_set]; exact (View.set_slice_whole _ _).subset

/-- A received tile added into a tile of the send buffer. -/
theorem comb_spec (q : Fin 8) (s : Fin 3) (h : Fin 4) (v r : T F) :
    iprop(sT c q h v ∗ rT c q s h r)
      ⊢ WP c (comb q s h) (fun _ => iprop(sT c q h (down (addf (up v) (up r))) ∗ rT c q s h r)) := by
  unfold comb loadS loadR storeS WP sT rT
  simp only [Prog.lift, Prog.bind_op, Prog.bind_ret]
  iintro ⟨⟨%f, %hf, Hs⟩, ⟨%g, %hg, Hr⟩⟩
  iapply (wp_load_rect 𝒱₀ (c : Thread nD τ) none Set.univ (m := sM) (accS_sub q h)) $$ Hs; iintro Hs
  iapply (wp_load_rect 𝒱₀ (c : Thread nD τ) none Set.univ (m := rM) (accR_sub q s h)) $$ Hr; iintro Hr
  iapply (wp_load_rect 𝒱₀ (c : Thread nD τ) none Set.univ (m := sM) (accS_sub q h)) $$ Hs; iintro Hs
  iapply (wp_store 𝒱₀ (c : Thread nD τ) none Set.univ (m := sM) (r := rectS q h) (Mk := Finset.univ) (accS_sub q h)) $$ Hs; iintro Hs
  rw [wp_ret]; imodintro
  isplitl [Hs]
  · iexists _
    isplitr; swap
    · iexact Hs
    ipureintro
    rw [read_storeS, ← hf, ← hg]; rfl
  iexists g
  isplitr
  · ipureintro; exact hg
  iexact Hr

/-- Two received tiles added into a tile of the send buffer. -/
theorem comb2_spec (q : Fin 8) (h : Fin 4) (v r r' : T F) :
    iprop(sT c q h v ∗ rT c q 0 h r ∗ rT c q 1 h r')
      ⊢ WP c (comb2 q h) (fun _ => iprop(sT c q h (down (addf (addf (up v) (up r)) (up r'))) ∗ rT c q 0 h r ∗ rT c q 1 h r')) := by
  unfold comb2 loadS loadR storeS WP sT rT
  simp only [Prog.lift, Prog.bind_op, Prog.bind_ret]
  iintro ⟨⟨%f, %hf, Hs⟩, ⟨%g, %hg, Hr⟩, ⟨%g', %hg', Hr'⟩⟩
  iapply (wp_load_rect 𝒱₀ (c : Thread nD τ) none Set.univ (m := sM) (accS_sub q h)) $$ Hs; iintro Hs
  iapply (wp_load_rect 𝒱₀ (c : Thread nD τ) none Set.univ (m := rM) (accR_sub q 0 h)) $$ Hr; iintro Hr
  iapply (wp_load_rect 𝒱₀ (c : Thread nD τ) none Set.univ (m := rM) (accR_sub q 1 h)) $$ Hr'; iintro Hr'
  iapply (wp_load_rect 𝒱₀ (c : Thread nD τ) none Set.univ (m := sM) (accS_sub q h)) $$ Hs; iintro Hs
  iapply (wp_store 𝒱₀ (c : Thread nD τ) none Set.univ (m := sM) (r := rectS q h) (Mk := Finset.univ) (accS_sub q h)) $$ Hs; iintro Hs
  rw [wp_ret]; imodintro
  isplitl [Hs]
  · iexists _
    isplitr; swap
    · iexact Hs
    ipureintro
    rw [read_storeS, ← hf, ← hg, ← hg']; rfl
  isplitl [Hr]
  · iexists g
    isplitr
    · ipureintro; exact hg
    iexact Hr
  iexists g'
  isplitr
  · ipureintro; exact hg'
  iexact Hr'

end Cert.Cube
-- ==== Proof.BlockWp.lean ====
/-
The steps on whole row blocks and on the result, and the rule for a list of steps.
-/
module

public import proofs.«01_k».proof.Proof.StepWp

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × KI → ℕ) (c : Dev nD)

/-! ## Sequences of steps -/

/-- A step whose effect is known, before the rest of the program. -/
theorem WP_step {c : Dev nD} {P Q : sProp 𝕄} {p : KP F PUnit} (h : P ⊢ WP c p (fun _ => Q)) {α : Type} {k : PUnit → KP F α}
    {R : α → sProp 𝕄} : P ⊢ iprop((Q -∗ WP c (k ⟨⟩) R) -∗ WP c (p >>= k) R) := by
  unfold WP
  iintro HP Hk
  rw [wp_bind]
  ihave Hp := h $$ HP
  iapply (wp_wand frame (wpE (defs₀ (F := F)) 𝒱₀ (c : Thread nD τ) none) Set.univ (Q := fun _ => Q)) $$ Hp
  iintro %a HQ
  iapply Hk
  iexact HQ
/-- The last step. -/
theorem WP_last {c : Dev nD} {P Q : sProp 𝕄} {p : KP F PUnit} (h : P ⊢ WP c p (fun _ => Q))
    {R : PUnit → sProp 𝕄} : P ⊢ iprop((Q -∗ R ⟨⟩) -∗ WP c p R) := by
  unfold WP
  iintro HP Hk
  ihave Hp := h $$ HP
  iapply (wp_wand frame (wpE (defs₀ (F := F)) 𝒱₀ (c : Thread nD τ) none) Set.univ (Q := fun _ => Q)) $$ Hp
  iintro %a HQ
  iapply Hk
  iexact HQ

/-- A list of steps, one for each index: step `i` takes `A i` to `B i` and the state `R` of the list from `i` on to that
    of the rest. -/
theorem WP_chain {c : Dev nD} {I : Type} (P : sProp 𝕄) [BI.Persistent P] (g : I → KP F PUnit) (R : List I → sProp 𝕄)
    (A B : I → sProp 𝕄) (h : ∀ i l, iprop(P ∗ R (i :: l) ∗ A i) ⊢ WP c (g i) (fun _ => iprop(R l ∗ B i))) (l : List I) :
    iprop(P ∗ R l ∗ bigSepL l A) ⊢ WP c (Pipeline.chain (l.map g)) (fun _ => iprop(R [] ∗ bigSepL l B)) := by
  induction l with
  | nil =>
    rw [List.map_nil, Pipeline.chain_nil]
    unfold WP
    rw [wp_pure, bigSepL_nil, bigSepL_nil]
    iintro ⟨-, HR, HE⟩
    imodintro
    isplitl [HR]; · iexact HR
    iexact HE
  | cons i l ih =>
    rw [List.map_cons, Pipeline.chain_cons, bigSepL_cons', bigSepL_cons']
    iintro ⟨#HP, HR, HA, HAl⟩
    iapply (WP_step (h i l)) $$ [HR HA]
    · isplitr; · iexact HP
      isplitl [HR]; · iexact HR
      iexact HA
    iintro ⟨HR, HB⟩
    iapply (WP_last ih) $$ [HR HAl]
    · isplitr; · iexact HP
      isplitl [HR]; · iexact HR
      iexact HAl
    iintro ⟨HR, HBl⟩
    isplitl [HR]; · iexact HR
    isplitl [HB]; · iexact HB
    iexact HBl

theorem chain_append (xs ys : List (KP F PUnit)) :
    Pipeline.chain (xs ++ ys) = (Pipeline.chain xs >>= fun _ => Pipeline.chain ys) := by
  induction xs with
  | nil => rfl
  | cons x xs ih => rw [List.cons_append, Pipeline.chain_cons, Pipeline.chain_cons, ih, bind_assoc]
theorem chain_flatMap {I : Type} (l : List I) (g : I → List (KP F PUnit)) :
    Pipeline.chain (l.flatMap g) = Pipeline.chain (l.map fun i => Pipeline.chain (g i)) := by
  induction l with
  | nil => rfl
  | cons i l ih => rw [List.flatMap_cons, chain_append, List.map_cons, Pipeline.chain_cons, ih]

/-! ## A row block's product -/

/-- Device `c`'s block of x and of w in their staging buffers, and the result's buffer holding `f`. -/
def xPts (c : Dev nD) : sProp 𝕄 := iprop(xM.view.loc (c : Thread nD τ) ↦{fullShare} D.x c)
def wPts (c : Dev nD) : sProp 𝕄 := iprop(wM.view.loc (c : Thread nD τ) ↦{fullShare} D.w c)
def oPts (c : Dev nD) (f : (cc0_stg2_0 : Ref sig .tc).ty.Contents (Elt F)) : sProp 𝕄 :=
  iprop(oM.view.loc (c : Thread nD τ) ↦{fullShare} f)

abbrev hs : List (Fin 4) := [0, 1, 2, 3]
omit [FloatOps F] in
theorem bigSep_hs (Φ : Fin 4 → sProp 𝕄) : bigSep Finset.univ Φ = bigSepL hs Φ :=
  bigSep_univ_eq_bigSepL hs (by decide) (by decide) Φ

/-- The four tiles of a row block are the row block. -/
theorem block_join (q : Fin 8) :
    (bigSep Finset.univ fun h => sAny (F := F) c q h)
      ⊢ iprop(∃ f : Buf (Elt F) (sM.view.loc (c : Thread nD τ)), sM.view.loc (c : Thread nD τ) ↦[(rectB q).set]{fullShare} f) := by
  unfold sAny
  iintro H
  ihave H := (BI.bigSep_exists_pi Finset.univ (fun (h : Fin 4) (f : Buf (Elt F) (sM.view.loc (c : Thread nD τ))) =>
    (sM.view.loc (c : Thread nD τ) ↦[(sV q h).view.set]{fullShare} f : sProp 𝕄))) $$ H
  icases H with ⟨%fs, H⟩
  ihave H := (pointsTo_biUnion_join Finset.univ (fun h : Fin 4 => (sV q h).view.set) fs (fs 0)
    (fun h _ h' _ e => by
      rw [sV_set, sV_set]; exact sV_disjoint (q, h) (q, h') fun e' => e (congrArg Prod.snd e'))) $$ H
  icases H with ⟨%g, -, H⟩
  iexists g
  rw [← rectB_eq q, show (Finset.univ.biUnion fun h : Fin 4 => (sV q h).view.set) = Finset.univ.biUnion fun h => (rectS q h).set from
    Finset.biUnion_congr rfl fun h _ => sV_set q h]
  iexact H

theorem block_split (q : Fin 8) (f : Buf (Elt F) (sM.view.loc (c : Thread nD τ))) (v : Fin 4 → T F)
    (hf : ∀ h, (sV q h).view.read (Elt F) f = v h) :
    (sM.view.loc (c : Thread nD τ) ↦[(rectB q).set]{fullShare} f : sProp 𝕄) ⊢ bigSep Finset.univ fun h => sT c q h (v h) := by
  have e : (sM.view.loc (c : Thread nD τ) ↦[Finset.univ.biUnion fun h : Fin 4 => (rectS q h).set]{fullShare} f : sProp 𝕄)
      = bigSep Finset.univ fun h : Fin 4 => sM.view.loc (c : Thread nD τ) ↦[(rectS q h).set]{fullShare} f :=
    pointsTo_biUnion (ℓ := sM.view.loc (c : Thread nD τ)) Finset.univ (fun h : Fin 4 => (rectS q h).set)
      (fun h _ h' _ e => sV_disjoint (q, h) (q, h') fun e' => e (congrArg Prod.snd e'))
  rw [← rectB_eq q]
  refine (Entails.of_eq e).trans (bigSep_mono fun h _ => ?_)
  show (sM.view.loc (c : Thread nD τ) ↦[(rectS q h).set]{fullShare} f : sProp 𝕄) ⊢ sT c q h (v h)
  unfold sT
  rw [sV_set]
  iintro H
  iexists f
  isplitr
  · ipureintro; exact hf h
  iexact H

theorem mmStep_spec (q : Fin 8) :
    iprop(xPts D c ∗ bigSepL hs fun h => sAny (F := F) c q h)
      ⊢ WP c (mmStep (D.wV c) q) (fun _ => iprop(xPts D c ∗ bigSepL hs fun h => sT c q h (D.part q h c))) := by
  rw [← bigSep_hs, ← bigSep_hs]
  unfold mmStep WP xPts
  simp only [Prog.lift, Prog.bind_op, Prog.bind_ret]
  iintro ⟨Hx, Hs⟩
  ihave Hs := (block_join (F := F) c q) $$ Hs
  icases Hs with ⟨%f, Hs⟩
  iapply (wp_load 𝒱₀ (c : Thread nD τ) none Set.univ (m := xM) (Finset.subset_univ _)) $$ Hx; iintro Hx
  iapply (wp_load_rect 𝒱₀ (c : Thread nD τ) none Set.univ (m := sM) (r := rectB q) (S := (rectB q).set) (View.set_slice_whole _ _).subset) $$ Hs; iintro Hs
  iapply (wp_store 𝒱₀ (c : Thread nD τ) none Set.univ (m := sM) (r := rectB q) (Mk := Finset.univ) (S := (rectB q).set) (View.set_slice_whole _ _).subset) $$ Hs; iintro Hs
  rw [wp_ret]; imodintro
  isplitl [Hx]; · iexact Hx
  iapply (block_split c q _ (fun h => D.part q h c) (fun h => read_storeB q h f (D.wV c) (D.xV q c)))
  iexact Hs

/-! ## The result -/

theorem outStep_spec (q : Fin 8) (h : Fin 4) (v : T F) (e : 2 < stp q h c)
    (f : (cc0_stg2_0 : Ref sig .tc).ty.Contents (Elt F)) :
    iprop(Ctx D K ∗ sT c q h v ∗ (atPos ER (rCell c q 2 h) 0 ∅ 0 ∗ cred (tallyAt (rCell c q 2 h) () N)) ∗ owesX c 0 ∗ oPts c f)
      ⊢ WP c (outStep q h) (fun _ => iprop(sT c q h v ∗ (rT c q 2 h (D.inV q 2 h c) ∗ semVal (rCell c q 2 h) 0) ∗ owesX c 0
          ∗ oPts c ((oM.access (rectO h)).write (Elt F) f (addf (up v) (up (D.inV q 2 h c))) Finset.univ))) := by
  unfold outStep
  iintro ⟨#HC, Hs, Hr, HO, Ho⟩
  iapply (WP_step (waitR_spec D K c q 2 h e 0 (Above.zero _))) $$ [Hr HO]
  · isplitr; · iexact HC
    isplitl [Hr]; · iexact Hr
    iexact HO
  iintro ⟨⟨Hr, Hz⟩, HO⟩
  unfold loadS loadR WP sT rT oPts
  simp only [Prog.lift, Prog.bind_op, Prog.bind_ret]
  icases Hs with ⟨%g, %hg, Hs⟩
  icases Hr with ⟨%g', %hg', Hr⟩
  iapply (wp_load_rect 𝒱₀ (c : Thread nD τ) none Set.univ (m := sM) (accS_sub q h)) $$ Hs; iintro Hs
  iapply (wp_load_rect 𝒱₀ (c : Thread nD τ) none Set.univ (m := rM) (accR_sub q 2 h)) $$ Hr; iintro Hr
  iapply (wp_load 𝒱₀ (c : Thread nD τ) none Set.univ (m := oM) (Finset.subset_univ _)) $$ Ho; iintro Ho
  iapply (wp_store 𝒱₀ (c : Thread nD τ) none Set.univ (m := oM) (r := rectO h) (Mk := Finset.univ) (Finset.subset_univ _)) $$ Ho; iintro Ho
  rw [wp_ret]; imodintro
  isplitl [Hs]
  · iexists g
    isplitr; · (ipureintro; exact hg)
    iexact Hs
  isplitl [Hr Hz]
  · isplitl [Hr]
    · iexists g'
      isplitr; · (ipureintro; exact hg')
      iexact Hr
    iexact Hz
  isplitl [HO]; · iexact HO
  rw [← hg, ← hg']
  iexact Ho

end Cert.Cube
-- ==== Proof.Phases.lean ====
/-
The phases of the body, one tile or one row block at a time.

What a device holds for tile `(q, h)` is one of three: before its step (`A0`: the partial product, the receive tiles to
come, the neighbour's tile), after it has sent the tile (`A1`: the right to have it back), and at the end (`Fin`). `Af k`
is the state after the steps before `k`.
-/
module

public import proofs.«01_k».proof.Proof.BlockWp

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × KI → ℕ) (c : Dev nD)

/-! ## The state of a tile -/

/-- A receive tile that nothing more will arrive in. -/
def rDone (q : Fin 8) (s : Fin 3) (h : Fin 4) : sProp 𝕄 := iprop(rAny (F := F) c q s h ∗ semVal (rCell c q s h) 0)
/-- A receive tile at the start. -/
def rin (q : Fin 8) (s : Fin 3) (h : Fin 4) : sProp 𝕄 :=
  if s.val < stp q h c then iprop(atPos ER (rCell c q s h) 0 ∅ 0 ∗ cred (tallyAt (rCell c q s h) () N)) else rDone (F := F) c q s h
/-- A send semaphore at the start. -/
def sout (q : Fin 8) (h : Fin 4) : sProp 𝕄 :=
  if stp q h c < 3 then iprop(atPos ER (sCell c q h) 0 ∅ 0 ∗ dutyTok ER (sCell c q h) 0 0) else semVal (sCell c q h) 0
/-- The neighbour's receive tile that this device will write. -/
def peer (q : Fin 8) (s : Fin 3) (h : Fin 4) : sProp 𝕄 :=
  if stp q h c = s.val then rAny (F := F) (nbD (ax q h s) c) q s h else iprop(emp)
def tokR (q : Fin 8) (s : Fin 3) (h : Fin 4) : sProp 𝕄 := dutyTok ER (rCell (nbD (ax q h s) c) q s h) 0 0

def Rest (q : Fin 8) (h : Fin 4) : sProp 𝕄 :=
  iprop((rin (F := F) c q 0 h ∗ rin c q 1 h ∗ rin c q 2 h) ∗ sout c q h ∗ (tokR c q 0 h ∗ tokR c q 1 h ∗ tokR c q 2 h))
def Peers (q : Fin 8) (h : Fin 4) : sProp 𝕄 := iprop(peer (F := F) c q 0 h ∗ peer c q 1 h ∗ peer c q 2 h)
def A0 (q : Fin 8) (h : Fin 4) : sProp 𝕄 := iprop(sT c q h (D.part q h c) ∗ Rest c q h ∗ Peers c q h)
def A1 (q : Fin 8) (h : Fin 4) : sProp 𝕄 :=
  iprop((atPos ER (sCell c q h) 0 ∅ 0 ∗ cred (tallyAt (sCell c q h) () N))
    ∗ rDone (F := F) c q 0 h ∗ rDone c q 1 h ∗ rDone c q 2 h)
def Fin1 (q : Fin 8) (h : Fin 4) : sProp 𝕄 :=
  iprop((sAny (F := F) c q h ∗ semVal (sCell c q h) 0) ∗ rDone c q 0 h ∗ rDone c q 1 h ∗ rDone c q 2 h)
def Af (k : ℕ) (x : QH) : sProp 𝕄 := if stp x.1 x.2 c < k then A1 c x.1 x.2 else A0 D c x.1 x.2
/-- After phase 5: sent, or added up into the result. -/
def Ag (x : QH) : sProp 𝕄 := if stp x.1 x.2 c < 3 then A1 (F := F) c x.1 x.2 else Fin1 c x.1 x.2

theorem sT_any (q : Fin 8) (h : Fin 4) (v : T F) : sT c q h v ⊢ sAny c q h := by
  unfold sT sAny
  iintro ⟨%f, -, H⟩
  iexists f
  iexact H
theorem rT_any (q : Fin 8) (s : Fin 3) (h : Fin 4) (v : T F) : rT c q s h v ⊢ rAny c q s h := by
  unfold rT rAny
  iintro ⟨%f, -, H⟩
  iexists f
  iexact H
theorem rT_done (q : Fin 8) (s : Fin 3) (h : Fin 4) (v : T F) : iprop(rT c q s h v ∗ semVal (rCell c q s h) 0) ⊢ rDone c q s h := by
  unfold rDone
  iintro ⟨H, Hz⟩
  isplitl [H]
  · iapply (rT_any c q s h v); iexact H
  iexact Hz

/-! ## A phase passes a tile that is not its own -/

theorem guard_skip {b : BitVec 1} (hb : ¬ b = 1#1) (p : KP F PUnit) (P : sProp 𝕄) : P ⊢ WP c (guard b p) (fun _ => P) := by
  unfold guard WP
  rw [dif_neg hb, wp_pure]
  iintro H
  imodintro
  iexact H
theorem guard_run {b : BitVec 1} (hb : b = 1#1) (p : KP F PUnit) : guard b p = p := dif_pos hb

theorem Af_skip (k : ℕ) (x : QH) (e : stp x.1 x.2 c ≠ k) : Af D c (k + 1) x = Af D c k x := by
  unfold Af
  by_cases h : stp x.1 x.2 c < k
  · rw [if_pos h, if_pos (by omega)]
  · rw [if_neg h, if_neg (by omega)]
theorem Af_at (k : ℕ) (x : QH) (e : stp x.1 x.2 c = k) : Af D c k x = A0 D c x.1 x.2 := if_neg (by omega)
theorem Af_sent (k : ℕ) (x : QH) (e : stp x.1 x.2 c = k) : Af D c (k + 1) x = A1 c x.1 x.2 := if_pos (by omega)
omit [FloatOps F] in
theorem owe1_skip (t : Fin 3) (x : QH) (e : stp x.1 x.2 c ≠ t.val) : owe1 c t x = 0 := if_neg e
omit [FloatOps F] in
theorem owe1_at (t : Fin 3) (x : QH) (e : stp x.1 x.2 c = t.val) :
    owe1 c t x = tallyAt (rCell (nbD (ax x.1 x.2 t) c) x.1 t x.2) () N := if_pos e

/-- A phase's step at a tile that is not its own. -/
theorem phase_skip (t : Fin 3) (x : QH) (O : Tal) {b : BitVec 1} (hb : b = 1#1 ↔ stp x.1 x.2 c = t.val) (p : KP F PUnit)
    (e : stp x.1 x.2 c ≠ t.val) :
    iprop(Ctx D K ∗ owesX c (O + owe1 c t x) ∗ Af D c t.val x)
      ⊢ WP c (guard b p) (fun _ => iprop(owesX c O ∗ Af D c (t.val + 1) x)) := by
  rw [owe1_skip c t x e, add_zero, Af_skip D c t.val x e]
  iintro ⟨-, H⟩
  iapply (guard_skip c (fun h => e (hb.mp h)) p iprop(owesX c O ∗ Af D c t.val x))
  iexact H

theorem rin_done (q : Fin 8) (s : Fin 3) (h : Fin 4) (e : ¬ s.val < stp q h c) : rin (F := F) c q s h = rDone c q s h := if_neg e
theorem rin_wait (q : Fin 8) (s : Fin 3) (h : Fin 4) (e : s.val < stp q h c) :
    rin (F := F) c q s h = iprop(atPos ER (rCell c q s h) 0 ∅ 0 ∗ cred (tallyAt (rCell c q s h) () N)) := if_pos e
theorem sout_send (q : Fin 8) (h : Fin 4) (e : stp q h c < 3) :
    sout (F := F) c q h = iprop(atPos ER (sCell c q h) 0 ∅ 0 ∗ dutyTok ER (sCell c q h) 0 0) := if_pos e
theorem peer_at (q : Fin 8) (s : Fin 3) (h : Fin 4) (e : stp q h c = s.val) :
    peer (F := F) c q s h = rAny (nbD (ax q h s) c) q s h := if_pos e

/-! ## Phases 1, 2 and 3 at their own tiles -/

theorem ph1_spec (x : QH) (O : Tal) :
    iprop(Ctx D K ∗ owesX c (O + owe1 c 0 x) ∗ Af D c 0 x)
      ⊢ WP c (ph1 c x.1 x.2) (fun _ => iprop(owesX c O ∗ Af D c 1 x)) := by
  obtain ⟨q, h⟩ := x
  dsimp only
  by_cases e : stp q h c = 0
  · unfold ph1
    rw [guard_run ((cond1_iff q h c).mpr e), owe1_at c 0 (q, h) e, Af_at D c 0 (q, h) e, Af_sent D c 0 (q, h) e]
    dsimp only
    unfold A0 A1 Rest Peers
    rw [rin_done c q 0 h (by rw [e]; decide), rin_done c q 1 h (by rw [e]; decide), rin_done c q 2 h (by rw [e]; decide),
      sout_send c q h (by rw [e]; decide), peer_at c q 0 h e]
    unfold tokR
    iintro ⟨#HC, HO, Hs, ⟨Hr, ⟨Hat, HtS⟩, HtR, -, -⟩, Hp, -, -⟩
    iapply (WP_last (send_spec D K c q 0 h e O)) $$ [HO Hs Hp HtS HtR]
    · isplitr; · iexact HC
      isplitl [Hs]; · iexact Hs
      isplitl [Hp]; · iexact Hp
      isplitl [HtR]; · iexact HtR
      isplitl [HtS]; · iexact HtS
      iexact HO
    iintro ⟨Hc, HO⟩
    isplitl [HO]; · iexact HO
    isplitl [Hat Hc]
    · isplitl [Hat]; · iexact Hat
      iexact Hc
    iexact Hr
  · exact phase_skip D K c 0 (q, h) O (cond1_iff q h c) _ e

theorem ph2_spec (x : QH) (O : Tal) (hO : Above 2 (O + owe1 c 1 x)) :
    iprop(Ctx D K ∗ owesX c (O + owe1 c 1 x) ∗ Af D c 1 x)
      ⊢ WP c (ph2 c x) (fun _ => iprop(owesX c O ∗ Af D c 2 x)) := by
  obtain ⟨q, h⟩ := x
  by_cases e : stp q h c = 1
  · unfold ph2
    rw [guard_run ((cond2_iff q h c).mpr e)]
    rw [owe1_at c 1 (q, h) e] at hO ⊢
    rw [Af_at D c 1 (q, h) e, Af_sent D c 1 (q, h) e]
    dsimp only at hO ⊢
    unfold A0 A1 Rest Peers go2
    rw [rin_wait c q 0 h (by rw [e]; decide), rin_done c q 1 h (by rw [e]; decide), rin_done c q 2 h (by rw [e]; decide),
      sout_send c q h (by rw [e]; decide), peer_at c q 1 h e]
    unfold tokR
    iintro ⟨#HC, HO, Hs, ⟨⟨Hr0, Hr1, Hr2⟩, ⟨Hat, HtS⟩, -, HtR, -⟩, -, Hp, -⟩
    iapply (WP_step (waitR_spec D K c q 0 h (by rw [e]; decide) _ hO)) $$ [HO Hr0]
    · isplitr; · iexact HC
      isplitl [Hr0]; · iexact Hr0
      iexact HO
    iintro ⟨⟨Hr0, Hz0⟩, HO⟩
    iapply (WP_step (comb_spec c q 0 h (D.part q h c) (D.inV q 0 h c))) $$ [Hs Hr0]
    · isplitl [Hs]; · iexact Hs
      iexact Hr0
    iintro ⟨Hs, Hr0⟩
    iapply (WP_last (send_spec D K c q 1 h e O)) $$ [HO Hs Hp HtS HtR]
    · isplitr; · iexact HC
      isplitl [Hs]; · iexact Hs
      isplitl [Hp]; · iexact Hp
      isplitl [HtR]; · iexact HtR
      isplitl [HtS]; · iexact HtS
      iexact HO
    iintro ⟨Hc, HO⟩
    isplitl [HO]; · iexact HO
    isplitl [Hat Hc]
    · isplitl [Hat]; · iexact Hat
      iexact Hc
    isplitl [Hr0 Hz0]
    · iapply (rT_done c q 0 h (D.inV q 0 h c))
      isplitl [Hr0]; · iexact Hr0
      iexact Hz0
    isplitl [Hr1]; · iexact Hr1
    iexact Hr2
  · exact phase_skip D K c 1 (q, h) O (cond2_iff q h c) _ e

omit [FloatOps F] in
theorem Above.mono {b b' : ℕ} {O : Tal} (h : Above b' O) (hb : b ≤ b') : Above b O :=
  fun g u hp => ⟨(h g u hp).1, lt_of_le_of_lt hb (h g u hp).2⟩

theorem ph3_spec (x : QH) (O : Tal) (hO : Above 3 (O + owe1 c 2 x)) :
    iprop(Ctx D K ∗ owesX c (O + owe1 c 2 x) ∗ Af D c 2 x)
      ⊢ WP c (ph3 c x) (fun _ => iprop(owesX c O ∗ Af D c 3 x)) := by
  obtain ⟨q, h⟩ := x
  by_cases e : stp q h c = 2
  · unfold ph3
    rw [guard_run ((cond3_iff q h c).mpr e)]
    rw [owe1_at c 2 (q, h) e] at hO ⊢
    rw [Af_at D c 2 (q, h) e, Af_sent D c 2 (q, h) e]
    dsimp only at hO ⊢
    unfold A0 A1 Rest Peers go3
    rw [rin_wait c q 0 h (by rw [e]; decide), rin_wait c q 1 h (by rw [e]; decide), rin_done c q 2 h (by rw [e]; decide),
      sout_send c q h (by rw [e]; decide), peer_at c q 2 h e]
    unfold tokR
    iintro ⟨#HC, HO, Hs, ⟨⟨Hr0, Hr1, Hr2⟩, ⟨Hat, HtS⟩, -, -, HtR⟩, -, -, Hp⟩
    iapply (WP_step (waitR_spec D K c q 0 h (by rw [e]; decide) _ (hO.mono (by decide)))) $$ [HO Hr0]
    · isplitr; · iexact HC
      isplitl [Hr0]; · iexact Hr0
      iexact HO
    iintro ⟨⟨Hr0, Hz0⟩, HO⟩
    iapply (WP_step (waitR_spec D K c q 1 h (by rw [e]; decide) _ hO)) $$ [HO Hr1]
    · isplitr; · iexact HC
      isplitl [Hr1]; · iexact Hr1
      iexact HO
    iintro ⟨⟨Hr1, Hz1⟩, HO⟩
    iapply (WP_step (comb2_spec c q h (D.part q h c) (D.inV q 0 h c) (D.inV q 1 h c))) $$ [Hs Hr0 Hr1]
    · isplitl [Hs]; · iexact Hs
      isplitl [Hr0]; · iexact Hr0
      iexact Hr1
    iintro ⟨Hs, Hr0, Hr1⟩
    iapply (WP_last (send_spec D K c q 2 h e O)) $$ [HO Hs Hp HtS HtR]
    · isplitr; · iexact HC
      isplitl [Hs]; · iexact Hs
      isplitl [Hp]; · iexact Hp
      isplitl [HtR]; · iexact HtR
      isplitl [HtS]; · iexact HtS
      iexact HO
    iintro ⟨Hc, HO⟩
    isplitl [HO]; · iexact HO
    isplitl [Hat Hc]
    · isplitl [Hat]; · iexact Hat
      iexact Hc
    isplitl [Hr0 Hz0]
    · iapply (rT_done c q 0 h (D.inV q 0 h c))
      isplitl [Hr0]; · iexact Hr0
      iexact Hz0
    isplitl [Hr1 Hz1]
    · iapply (rT_done c q 1 h (D.inV q 1 h c))
      isplitl [Hr1]; · iexact Hr1
      iexact Hz1
    iexact Hr2
  · exact phase_skip D K c 2 (q, h) O (cond3_iff q h c) _ e

/-! ## Phase 5 -/

/-- The owner's state of a tile before each of the three rounds of phase 5. -/
def B0 (q : Fin 8) (h : Fin 4) : sProp 𝕄 :=
  iprop(sT c q h (D.part q h c) ∗ (atPos ER (rCell c q 0 h) 0 ∅ 0 ∗ cred (tallyAt (rCell c q 0 h) () N))
    ∗ (atPos ER (rCell c q 1 h) 0 ∅ 0 ∗ cred (tallyAt (rCell c q 1 h) () N))
    ∗ (atPos ER (rCell c q 2 h) 0 ∅ 0 ∗ cred (tallyAt (rCell c q 2 h) () N)) ∗ semVal (sCell c q h) 0)
def B1 (q : Fin 8) (h : Fin 4) : sProp 𝕄 :=
  iprop(sT c q h (D.acc1 q h c) ∗ rDone c q 0 h
    ∗ (atPos ER (rCell c q 1 h) 0 ∅ 0 ∗ cred (tallyAt (rCell c q 1 h) () N))
    ∗ (atPos ER (rCell c q 2 h) 0 ∅ 0 ∗ cred (tallyAt (rCell c q 2 h) () N)) ∗ semVal (sCell c q h) 0)
def B2 (q : Fin 8) (h : Fin 4) : sProp 𝕄 :=
  iprop(sT c q h (D.acc2 q h c) ∗ rDone c q 0 h ∗ rDone c q 1 h
    ∗ (atPos ER (rCell c q 2 h) 0 ∅ 0 ∗ cred (tallyAt (rCell c q 2 h) () N)) ∗ semVal (sCell c q h) 0)

theorem B0_intro (q : Fin 8) (h : Fin 4) (e : stp q h c = 3) : Af D c 3 (q, h) ⊢ B0 D c q h := by
  unfold Af
  rw [if_neg (by dsimp only; omega)]
  unfold A0 B0 Rest
  dsimp only
  rw [rin_wait c q 0 h (by rw [e]; decide), rin_wait c q 1 h (by rw [e]; decide), rin_wait c q 2 h (by rw [e]; decide)]
  unfold sout
  rw [if_neg (by omega)]
  iintro ⟨Hs, ⟨⟨H0, H1, H2⟩, Hz, -⟩, -⟩
  isplitl [Hs]; · iexact Hs
  isplitl [H0]; · iexact H0
  isplitl [H1]; · iexact H1
  isplitl [H2]; · iexact H2
  iexact Hz

theorem recv0_spec (q : Fin 8) (h : Fin 4) (e : stp q h c = 3) :
    iprop(Ctx D K ∗ owesX c 0 ∗ B0 D c q h) ⊢ WP c (recvStep q 0 h) (fun _ => iprop(owesX c 0 ∗ B1 D c q h)) := by
  unfold recvStep B0 B1
  iintro ⟨#HC, HO, Hs, H0, HR⟩
  iapply (WP_step (waitR_spec D K c q 0 h (by rw [e]; decide) 0 (Above.zero _))) $$ [HO H0]
  · isplitr; · iexact HC
    isplitl [H0]; · iexact H0
    iexact HO
  iintro ⟨⟨Hr, Hz⟩, HO⟩
  iapply (WP_last (comb_spec c q 0 h (D.part q h c) (D.inV q 0 h c))) $$ [Hs Hr]
  · isplitl [Hs]; · iexact Hs
    iexact Hr
  iintro ⟨Hs, Hr⟩
  isplitl [HO]; · iexact HO
  isplitl [Hs]; · iexact Hs
  isplitl [Hr Hz]
  · iapply (rT_done c q 0 h (D.inV q 0 h c))
    isplitl [Hr]; · iexact Hr
    iexact Hz
  iexact HR

theorem recv1_spec (q : Fin 8) (h : Fin 4) (e : stp q h c = 3) :
    iprop(Ctx D K ∗ owesX c 0 ∗ B1 D c q h) ⊢ WP c (recvStep q 1 h) (fun _ => iprop(owesX c 0 ∗ B2 D c q h)) := by
  unfold recvStep B1 B2
  iintro ⟨#HC, HO, Hs, H0, H1, HR⟩
  iapply (WP_step (waitR_spec D K c q 1 h (by rw [e]; decide) 0 (Above.zero _))) $$ [HO H1]
  · isplitr; · iexact HC
    isplitl [H1]; · iexact H1
    iexact HO
  iintro ⟨⟨Hr, Hz⟩, HO⟩
  iapply (WP_last (comb_spec c q 1 h (D.acc1 q h c) (D.inV q 1 h c))) $$ [Hs Hr]
  · isplitl [Hs]; · iexact Hs
    iexact Hr
  iintro ⟨Hs, Hr⟩
  isplitl [HO]; · iexact HO
  isplitl [Hs]; · iexact Hs
  isplitl [H0]; · iexact H0
  isplitl [Hr Hz]
  · iapply (rT_done c q 1 h (D.inV q 1 h c))
    isplitl [Hr]; · iexact Hr
    iexact Hz
  iexact HR

/-- The result's buffer when the quarters `l` are still to be written. -/
def OQ (q : Fin 8) (l : List (Fin 4)) : sProp 𝕄 :=
  iprop(∃ f, ⌜∀ h, h ∉ l → (oM.access (rectO h)).read (Elt F) f = D.outT q h c⌝ ∗ oPts c f)

theorem out_spec (q : Fin 8) (h : Fin 4) (l : List (Fin 4)) (e : stp q h c = 3) :
    iprop(Ctx D K ∗ (owesX c 0 ∗ OQ D c q (h :: l)) ∗ B2 D c q h)
      ⊢ WP c (outStep q h) (fun _ => iprop((owesX c 0 ∗ OQ D c q l) ∗ Fin1 c q h)) := by
  unfold OQ B2 Fin1
  iintro ⟨#HC, ⟨HO, ⟨%f, %hf, Ho⟩⟩, Hs, H0, H1, H2, Hz⟩
  iapply (WP_last (outStep_spec D K c q h (D.acc2 q h c) (by rw [e]; decide) f)) $$ [HO Ho Hs H2]
  · isplitr; · iexact HC
    isplitl [Hs]; · iexact Hs
    isplitl [H2]; · iexact H2
    isplitl [HO]; · iexact HO
    iexact Ho
  iintro ⟨Hs, H2, HO, Ho⟩
  isplitl [HO Ho]
  · isplitl [HO]; · iexact HO
    iexists _
    isplitr; swap
    · iexact Ho
    ipureintro
    intro h' hl
    by_cases eh : h' = h
    · subst eh; exact read_storeO h' f _
    · rw [read_storeO_ne h h' eh]
      exact hf h' (fun hm => (List.mem_cons.mp hm).elim eh hl)
  isplitl [Hs Hz]
  · isplitl [Hs]
    · iapply (sT_any c q h (D.acc2 q h c)); iexact Hs
    iexact Hz
  isplitl [H0]; · iexact H0
  isplitl [H1]; · iexact H1
  iapply (rT_done c q 2 h (D.inV q 2 h c))
  iexact H2

/-- The result's buffer when the row blocks `l` are still to come. -/
def OutS (l : List (Fin 8)) : sProp 𝕄 := iprop(∃ f, ⌜own c ∉ l → f = D.outV c⌝ ∗ oPts c f)

omit [FloatOps F] in
theorem stp_own (h : Fin 4) : stp (own c) h c = 3 := (stp_owner (own c) h c).mpr rfl
omit [FloatOps F] in
theorem stp_ne_own (q : Fin 8) (h : Fin 4) (e : q ≠ own c) : stp q h c < 3 := by
  have h1 := stp_le q h c
  have h2 : stp q h c ≠ 3 := fun h3 => e (Fin.ext ((stp_owner q h c).mp h3).symm)
  omega

theorem fin5_spec (l : List (Fin 8)) :
    iprop(Ctx D K ∗ (owesX c 0 ∗ OutS D c (own c :: l)) ∗ bigSepL hs fun h => Af D c 3 (own c, h))
      ⊢ WP c (fin5 (own c)) (fun _ => iprop((owesX c 0 ∗ OutS D c l) ∗ bigSepL hs fun h => Ag c (own c, h))) := by
  unfold fin5
  rw [chain_append, chain_append, bind_assoc]
  iintro ⟨#HC, ⟨HO, Ho⟩, HA⟩
  ihave HB := (bigSepL_mono (l := hs) fun h _ => B0_intro D c (own c) h (stp_own c h)) $$ HA
  iapply (WP_step (WP_chain (Ctx D K) (recvStep (own c) 0) (fun _ => owesX c 0) (B0 D c (own c)) (B1 D c (own c))
    (fun h _ => recv0_spec D K c (own c) h (stp_own c h)) hs)) $$ [HO HB]
  · isplitr; · iexact HC
    isplitl [HO]; · iexact HO
    iexact HB
  iintro ⟨HO, HB⟩
  iapply (WP_step (WP_chain (Ctx D K) (recvStep (own c) 1) (fun _ => owesX c 0) (B1 D c (own c)) (B2 D c (own c))
    (fun h _ => recv1_spec D K c (own c) h (stp_own c h)) hs)) $$ [HO HB]
  · isplitr; · iexact HC
    isplitl [HO]; · iexact HO
    iexact HB
  iintro ⟨HO, HB⟩
  iapply (WP_last (WP_chain (Ctx D K) (outStep (own c)) (fun l => iprop(owesX c 0 ∗ OQ D c (own c) l)) (B2 D c (own c)) (Fin1 c (own c))
    (fun h l => out_spec D K c (own c) h l (stp_own c h)) hs)) $$ [HO Ho HB]
  · isplitr; · iexact HC
    isplitl [HO Ho]
    · isplitl [HO]; · iexact HO
      unfold OutS OQ
      icases Ho with ⟨%f, -, Ho⟩
      iexists f
      isplitr; swap
      · iexact Ho
      ipureintro
      intro h hh
      exact absurd (show h ∈ hs by revert h; decide) hh
    iexact HB
  unfold OQ OutS
  iintro ⟨⟨HO, ⟨%f, %hf, Ho⟩⟩, HB⟩
  isplitl [HO Ho]
  · isplitl [HO]; · iexact HO
    iexists f
    isplitr; swap
    · iexact Ho
    ipureintro
    intro _
    exact glueO_eq _ f fun h => hf h (List.not_mem_nil)
  iapply (bigSepL_mono (l := hs) (Φ := Fin1 c (own c)) fun h _ => Entails.of_eq
    (show Fin1 c (own c) h = Ag c (own c, h) from (if_neg (by rw [stp_own]; decide)).symm))
  iexact HB

theorem ph5_spec (q : Fin 8) (l : List (Fin 8)) :
    iprop(Ctx D K ∗ (owesX c 0 ∗ OutS D c (q :: l)) ∗ bigSepL hs fun h => Af D c 3 (q, h))
      ⊢ WP c (ph5 c q) (fun _ => iprop((owesX c 0 ∗ OutS D c l) ∗ bigSepL hs fun h => Ag c (q, h))) := by
  unfold ph5
  by_cases e : q = own c
  · subst e
    rw [guard_run ((condE_iff (own c) 0 c).mpr (stp_own c 0))]
    exact fin5_spec D K c l
  · have hb : ¬ condE q c = 1#1 := fun h => by
      have h1 := (condE_iff q 0 c).mp h
      have h2 := stp_ne_own c q 0 e
      omega
    have e1 : OutS D c (q :: l) ⊢ OutS D c l := by
      unfold OutS
      iintro ⟨%f, %hf, H⟩
      iexists f
      isplitr; swap
      · iexact H
      ipureintro
      exact fun hl => hf fun hm => (List.mem_cons.mp hm).elim (fun h => e h.symm) hl
    have e2 : ∀ h ∈ hs, Af D c 3 (q, h) ⊢ Ag c (q, h) := fun h _ => by
      unfold Af Ag
      rw [if_pos (stp_ne_own c q h e), if_pos (stp_ne_own c q h e)]
    iintro ⟨-, ⟨HO, Ho⟩, HA⟩
    iapply (guard_skip c hb (fin5 q) iprop((owesX c 0 ∗ OutS D c l) ∗ bigSepL hs fun h => Ag c (q, h)))
    isplitl [HO Ho]
    · isplitl [HO]; · iexact HO
      iapply e1; iexact Ho
    iapply (bigSepL_mono e2)
    iexact HA

/-! ## Phase 6 -/

theorem wait_spec (q : Fin 8) (h : Fin 4) (e : stp q h c < 3) :
    iprop(Ctx D K ∗ owesX c 0 ∗ A1 c q h) ⊢ WP c (waitS q h) (fun _ => iprop(owesX c 0 ∗ Fin1 c q h)) := by
  unfold A1 Fin1
  iintro ⟨#HC, HO, Hs, HR⟩
  iapply (WP_last (waitS_spec D K c q h e)) $$ [HO Hs]
  · isplitr; · iexact HC
    isplitl [Hs]; · iexact Hs
    iexact HO
  iintro ⟨Hs, HO⟩
  isplitl [HO]; · iexact HO
  isplitl [Hs]; · iexact Hs
  iexact HR

theorem ph6_spec (q : Fin 8) :
    iprop(Ctx D K ∗ owesX c 0 ∗ bigSepL hs fun h => Ag c (q, h))
      ⊢ WP c (ph6 c q) (fun _ => iprop(owesX c 0 ∗ bigSepL hs fun h => Fin1 c q h)) := by
  unfold ph6
  by_cases e : q = own c
  · subst e
    have hb : ¬ condN (own c) c = 1#1 := fun h => by
      have h1 := (condN_iff (own c) 0 c).mp h
      rw [stp_own] at h1; omega
    have e2 : ∀ h ∈ hs, Ag c (own c, h) ⊢ Fin1 (F := F) c (own c) h := fun h _ => by
      unfold Ag
      rw [if_neg (by dsimp only; rw [stp_own]; decide)]
    iintro ⟨-, HO, HA⟩
    iapply (guard_skip c hb (fin6 (own c)) iprop(owesX c 0 ∗ bigSepL hs fun h => Fin1 c (own c) h))
    isplitl [HO]; · iexact HO
    iapply (bigSepL_mono e2)
    iexact HA
  · have e3 := fun h => stp_ne_own c q h e
    rw [guard_run ((condN_iff q 0 c).mpr (e3 0))]
    unfold fin6
    have e2 : ∀ h ∈ hs, Ag c (q, h) ⊢ A1 (F := F) c q h := fun h _ => by
      unfold Ag
      rw [if_pos (e3 h)]
    iintro ⟨#HC, HO, HA⟩
    iapply (WP_chain (Ctx D K) (waitS q) (fun _ => owesX c 0) (A1 c q) (Fin1 c q) (fun h _ => wait_spec D K c q h (e3 h)) hs)
    isplitr; · iexact HC
    isplitl [HO]; · iexact HO
    iapply (bigSepL_mono e2)
    iexact HA

end Cert.Cube
-- ==== Proof.Body.lean ====
/-
The whole body: what a device starts with, and that the body takes it to the result.
-/
module

public import proofs.«01_k».proof.Proof.Phases

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × KI → ℕ) (c : Dev nD)

/-! ## Collections of tiles, and lists of them -/

omit [FloatOps F] in
theorem big3 (Φ : Fin 3 → sProp 𝕄) : bigSep Finset.univ Φ = iprop(Φ 0 ∗ Φ 1 ∗ Φ 2) :=
  bigSep_univ_eq_bigSepL [0, 1, 2] (by decide) (by decide) Φ
omit [FloatOps F] in
/-- All tiles, row block by row block. -/
theorem big1 (Φ : QH → sProp 𝕄) : bigSep Finset.univ Φ = bigSepL blocks8 fun q => bigSepL hs fun h => Φ (q, h) := by
  rw [bigSep_univ_prod]
  refine (bigSep_univ_eq_bigSepL blocks8 (by decide) (by decide) _).trans ?_
  exact congrArg (bigSepL blocks8) (funext fun q => bigSep_hs fun h => Φ (q, h))
omit [FloatOps F] in
theorem big_order2 (Φ : QH → sProp 𝕄) : bigSep Finset.univ Φ = bigSepL order2 Φ :=
  bigSep_univ_eq_bigSepL order2 order2_univ order2_nodup Φ
omit [FloatOps F] in
theorem big_order3 (Φ : QH → sProp 𝕄) : bigSep Finset.univ Φ = bigSepL order3 Φ :=
  bigSep_univ_eq_bigSepL order3 order3_univ order3_nodup Φ

omit [FloatOps F] in
theorem blocks_cons (Φ : Fin 8 → sProp 𝕄) : bigSepL blocks8 Φ = iprop(Φ 0 ∗ bigSepL [1, 2, 3, 4, 5, 6, 7] Φ) := bigSepL_cons' _ _ _

omit [FloatOps F] in
theorem big_emp {I : Type} (s : Finset I) : bigSep s (fun _ => (iprop(emp) : sProp 𝕄)) = iprop(emp) := BI.bigSep_emp_const s
omit [FloatOps F] in
/-- A collection that is empty but at one index is what it is there. -/
theorem big_one (i : Fin 3) (Φ : Fin 3 → sProp 𝕄) {X : sProp 𝕄} (h : Φ i = X) (h' : ∀ j, j ≠ i → Φ j = iprop(emp)) :
    X ⊢ bigSep Finset.univ Φ := by
  rw [bigSep_univ_at _ i, h, bigSep_congr (Ψ := fun _ => iprop(emp)) fun j hj => h' j (Finset.ne_of_mem_erase hj), big_emp]
  iintro H
  isplitl; · iexact H
  iempintro

/-! ## The neighbours' tiles -/

omit [FloatOps F] in
/-- What the three signals bring: of each tile, the neighbour's receive tile for the step at which it leaves. -/
theorem peers_intro : (bigSep Finset.univ fun a => barPay (F := F) c a) ⊢ bigSep Finset.univ fun x : QH => Peers c x.1 x.2 := by
  have e (y : QH × Fin 3) : (bigSep Finset.univ fun a => payAt (F := F) c a y) ⊢ peer c y.1.1 y.2 y.1.2 := by
    suffices e1 : payAt (F := F) c (ax y.1.1 y.1.2 y.2) y = peer c y.1.1 y.2 y.1.2 from
      (bigSep_elim (Φ := fun a => payAt (F := F) c a y) (Finset.mem_univ (ax y.1.1 y.1.2 y.2))).trans (Entails.of_eq e1)
    unfold payAt peer
    by_cases h : stp y.1.1 y.1.2 c = y.2.val
    · rw [if_pos h, if_pos ⟨h, rfl⟩]
    · rw [if_neg h, if_neg fun h' => h h'.1]
  have e2 : (bigSep Finset.univ fun y : QH × Fin 3 => peer (F := F) c y.1.1 y.2 y.1.2)
      = bigSep Finset.univ fun x : QH => Peers c x.1 x.2 := by
    rw [bigSep_univ_prod]
    exact bigSep_congr fun x _ => big3 fun s => peer c x.1 s x.2
  unfold barPay
  rw [bigSep_univ_comm]
  exact (bigSep_mono fun y _ => e y).trans (Entails.of_eq e2)

/-- A receive tile that no neighbour will write. -/
def left (y : QH × Fin 3) : sProp 𝕄 :=
  if y.2.val < stp y.1.1 y.1.2 c then iprop(emp) else rAny (F := F) c y.1.1 y.2 y.1.2

omit [FloatOps F] in
/-- A device's receive tiles: those handed over with its three signals, and those that stay. -/
theorem hand_over : (bigSep Finset.univ fun y : QH × Fin 3 => rAny (F := F) c y.1.1 y.2 y.1.2)
    ⊢ iprop((bigSep Finset.univ fun a => barPay (nbD a c) a) ∗ bigSep Finset.univ fun y => left c y) := by
  have e (y : QH × Fin 3) (h : y.2.val < stp y.1.1 y.1.2 c) : rAny (F := F) c y.1.1 y.2 y.1.2
      ⊢ bigSep Finset.univ fun a => payAt (F := F) (nbD a c) a y := by
    refine big_one (ax y.1.1 y.1.2 y.2) (fun a => payAt (F := F) (nbD a c) a y) ?_ fun a ha => if_neg fun h1 => ha h1.2.symm
    unfold payAt
    rw [nb_nb, if_pos ⟨(stp_nb _ _ _ _).mpr h, rfl⟩]
  have e1 (y : QH × Fin 3) : rAny (F := F) c y.1.1 y.2 y.1.2
      ⊢ iprop((bigSep Finset.univ fun a => payAt (F := F) (nbD a c) a y) ∗ left c y) := by
    unfold left
    by_cases h : y.2.val < stp y.1.1 y.1.2 c
    · rw [if_pos h]
      iintro H
      isplitl; · (iapply (e y h); iexact H)
      iempintro
    · rw [if_neg h]
      have e' (a : Fin 3) (_ : a ∈ Finset.univ) : iprop(emp) ⊢ payAt (F := F) (nbD a c) a y := by
        unfold payAt
        rw [if_neg fun h1 => h ((stp_nb _ _ _ _).mp (by rw [h1.2]; exact h1.1))]
      have e'' : (iprop(emp) : sProp 𝕄) ⊢ bigSep Finset.univ fun a => payAt (F := F) (nbD a c) a y :=
        (Entails.of_eq (big_emp _).symm).trans (bigSep_mono e')
      iintro H
      isplitr; · (iapply e''; iempintro)
      iexact H
  unfold barPay
  rw [bigSep_univ_comm, ← bigSep_sep']
  exact bigSep_mono fun y _ => e1 y

/-! ## The start of a tile -/

/-- A receive semaphore at the start, and the token of the neighbour's. -/
def startR (y : QH × Fin 3) : sProp 𝕄 :=
  iprop(atPos ER (rCell c y.1.1 y.2 y.1.2) 0 ∅ 0
    ∗ cred (tallyAt (rCell c y.1.1 y.2 y.1.2) () (if y.2.val < stp y.1.1 y.1.2 c then N else 0)) ∗ tokR (F := F) c y.1.1 y.2 y.1.2)
/-- A send semaphore at the start. -/
def startS (x : QH) : sProp 𝕄 := iprop(atPos ER (sCell c x.1 x.2) 0 ∅ 0 ∗ dutyTok ER (sCell c x.1 x.2) 0 0)

theorem rin_intro (q : Fin 8) (s : Fin 3) (h : Fin 4) :
    iprop(Ctx D K ∗ startR c ((q, h), s) ∗ left c ((q, h), s)) ⊢ |={Set.univ}=> iprop(rin (F := F) c q s h ∗ tokR c q s h) := by
  unfold startR left rin
  dsimp only
  by_cases e : s.val < stp q h c
  · rw [if_pos e, if_pos e, if_pos e]
    iintro ⟨#HC, ⟨Hat, Hc, Ht⟩, Hl⟩
    imodintro
    isplitr [Ht]
    · isplitl [Hat]; · iexact Hat
      iexact Hc
    iexact Ht
  · rw [if_neg e, if_neg e, if_neg e]
    iintro ⟨#HC, ⟨Hat, Hc, Ht⟩, Hl⟩
    ihave #HI := (Ctx_inv D K (c, some ((q, h), some s))) $$ HC
    imod (Rounds.cell_close ER (sch D) (Set.mem_univ (K (c, some ((q, h), some s)))) (fun h => h) (R := 0) (duties_r_none D c q s h e)) $$ [Hat] with Hz
    · isplitr; · iexact HI
      iexact Hat
    imodintro
    unfold rDone
    isplitr [Ht]
    · isplitl [Hl]; · iexact Hl
      iexact Hz
    iexact Ht

theorem sout_intro (q : Fin 8) (h : Fin 4) :
    iprop(Ctx D K ∗ startS c (q, h)) ⊢ |={Set.univ}=> sout (F := F) c q h := by
  unfold startS sout
  dsimp only
  by_cases e : stp q h c < 3
  · rw [if_pos e]
    iintro ⟨-, H⟩
    imodintro
    iexact H
  · rw [if_neg e]
    iintro ⟨#HC, Hat, -⟩
    ihave #HI := (Ctx_inv D K (c, some ((q, h), none))) $$ HC
    imod (Rounds.cell_close ER (sch D) (Set.mem_univ (K (c, some ((q, h), none)))) (fun h => h) (R := 0) (duties_s_none D c q h e)) $$ [Hat] with Hz
    · isplitr; · iexact HI
      iexact Hat
    imodintro
    iexact Hz

theorem rest_intro (x : QH) :
    iprop(Ctx D K ∗ (bigSep Finset.univ fun s : Fin 3 => iprop(startR c (x, s) ∗ left c (x, s))) ∗ startS c x)
      ⊢ |={Set.univ}=> Rest (F := F) c x.1 x.2 := by
  obtain ⟨q, h⟩ := x
  rw [big3]
  unfold Rest
  iintro ⟨#HC, ⟨H0, H1, H2⟩, Hs⟩
  imod (rin_intro D K c q 0 h) $$ [H0] with ⟨H0, T0⟩
  · isplitr; · iexact HC
    iexact H0
  imod (rin_intro D K c q 1 h) $$ [H1] with ⟨H1, T1⟩
  · isplitr; · iexact HC
    iexact H1
  imod (rin_intro D K c q 2 h) $$ [H2] with ⟨H2, T2⟩
  · isplitr; · iexact HC
    iexact H2
  imod (sout_intro D K c q h) $$ [Hs] with Hs
  · isplitr; · iexact HC
    iexact Hs
  imodintro
  isplitl [H0 H1 H2]
  · isplitl [H0]; · iexact H0
    isplitl [H1]; · iexact H1
    iexact H2
  isplitl [Hs]; · iexact Hs
  isplitl [T0]; · iexact T0
  isplitl [T1]; · iexact T1
  iexact T2

theorem rests_intro :
    iprop(Ctx D K ∗ (bigSep Finset.univ fun y : QH × Fin 3 => startR c y) ∗ (bigSep Finset.univ fun y => left c y)
        ∗ bigSep Finset.univ fun x : QH => startS c x)
      ⊢ |={Set.univ}=> bigSep Finset.univ fun x : QH => Rest (F := F) c x.1 x.2 := by
  have e : iprop(Ctx D K ∗ bigSep Finset.univ fun x : QH =>
        iprop((bigSep Finset.univ fun s : Fin 3 => iprop(startR c (x, s) ∗ left c (x, s))) ∗ startS c x))
      ⊢ (|={Set.univ}=> bigSep Finset.univ fun x : QH => Rest (F := F) c x.1 x.2 : sProp 𝕄) :=
    (BI.bigSep_with_persistent (fun x _ => rest_intro D K c x)).trans (BI.bigSep_fupd _ _)
  have e2 : iprop((bigSep Finset.univ fun y : QH × Fin 3 => startR (F := F) c y) ∗ (bigSep Finset.univ fun y => left c y)
        ∗ bigSep Finset.univ fun x : QH => startS c x)
      ⊢ (bigSep Finset.univ fun x : QH =>
        iprop((bigSep Finset.univ fun s : Fin 3 => iprop(startR c (x, s) ∗ left c (x, s))) ∗ startS c x) : sProp 𝕄) := by
    rw [bigSep_sep', ← bigSep_univ_prod (fun y : QH × Fin 3 => iprop(startR (F := F) c y ∗ left c y)), bigSep_sep']
    iintro ⟨H1, H2, H3⟩
    isplitr [H3]
    · isplitl [H1]; · iexact H1
      iexact H2
    iexact H3
  iintro ⟨#HC, H⟩
  iapply e
  isplitr; · iexact HC
  iapply e2
  iexact H

/-! ## Phase 1 -/

/-- The tiles of row block `q`. -/
def tiles1 (q : Fin 8) : List QH := hs.map fun h => (q, h)

theorem ph1s_spec (q : Fin 8) (O : Tal) :
    iprop(Ctx D K ∗ owesX c (oweL c 0 (tiles1 q) + O) ∗ bigSepL hs fun h => Af D c 0 (q, h))
      ⊢ WP c (Pipeline.chain (hs.map (ph1 c q))) (fun _ => iprop(owesX c O ∗ bigSepL hs fun h => Af D c 1 (q, h))) := by
  iintro ⟨#HC, HO, HA⟩
  iapply (WP_last (WP_chain (Ctx D K) (ph1 c q) (fun l => owesX c (oweL c 0 (l.map fun h => (q, h)) + O))
    (fun h => Af D c 0 (q, h)) (fun h => Af D c 1 (q, h))
    (fun h l => by
      rw [show oweL c 0 ((h :: l).map fun h => (q, h)) + O = (oweL c 0 (l.map fun h => (q, h)) + O) + owe1 c 0 (q, h) from
        add_right_comm _ _ _]
      exact ph1_spec D K c (q, h) _) hs)) $$ [HO HA]
  · isplitr; · iexact HC
    isplitl [HO]; · iexact HO
    iexact HA
  rw [show oweL c 0 (([] : List (Fin 4)).map fun h => (q, h)) + O = O from zero_add O]
  iintro H
  iexact H

theorem tiles_start (q : Fin 8) :
    iprop((bigSepL hs fun h => sT c q h (D.part q h c)) ∗ (bigSepL hs fun h => Rest c q h) ∗ bigSepL hs fun h => Peers c q h)
      ⊢ bigSepL hs fun h => Af D c 0 (q, h) := by
  rw [← bigSep_hs, ← bigSep_hs, ← bigSep_hs, ← bigSep_hs, ← bigSep_sep', ← bigSep_sep']
  refine bigSep_mono fun h _ => ?_
  rw [show Af D c 0 (q, h) = A0 D c q h from if_neg (Nat.not_lt_zero _)]
  unfold A0
  exact Entails.refl _

/-- The blocks after the first. -/
theorem block_spec (q : Fin 8) (O : Tal) :
    iprop(Ctx D K ∗ (xPts D c ∗ owesX c (oweL c 0 (tiles1 q) + O))
        ∗ ((bigSepL hs fun h => sAny c q h) ∗ (bigSepL hs fun h => Rest c q h) ∗ bigSepL hs fun h => Peers c q h))
      ⊢ WP c (Pipeline.chain (mmStep (D.wV c) q :: hs.map (ph1 c q)))
          (fun _ => iprop((xPts D c ∗ owesX c O) ∗ bigSepL hs fun h => Af D c 1 (q, h))) := by
  rw [Pipeline.chain_cons]
  iintro ⟨#HC, ⟨Hx, HO⟩, Hs, HR⟩
  iapply (WP_step (mmStep_spec D c q)) $$ [Hx Hs]
  · isplitl [Hx]; · iexact Hx
    iexact Hs
  iintro ⟨Hx, Hs⟩
  ihave HA := (tiles_start D c q) $$ [Hs HR]
  · isplitl [Hs]; · iexact Hs
    iexact HR
  iapply (WP_last (ph1s_spec D K c q O)) $$ [HO HA]
  · isplitr; · iexact HC
    isplitl [HO]; · iexact HO
    iexact HA
  iintro ⟨HO, HA⟩
  isplitr [HA]
  · isplitl [Hx]; · iexact Hx
    iexact HO
  iexact HA

/-- The first block, with the wait on the barrier. -/
theorem block0_spec (O : Tal) (hO : Above 1 (oweL c 0 (tiles1 0) + O)) :
    iprop(Ctx D K ∗ (xPts D c ∗ owesX c (oweL c 0 (tiles1 0) + O)) ∗ (atPos ER (barCell c) 0 ∅ 0 ∗ cred (tallyAt (barCell c) () 3))
        ∗ (bigSepL hs fun h => sAny c 0 h) ∗ (bigSepL hs fun h => Rest c 0 h))
      ⊢ WP c (Pipeline.chain (mmStep (D.wV c) 0 :: barWait :: hs.map (ph1 c 0)))
          (fun _ => iprop((xPts D c ∗ owesX c O) ∗ semVal (barCell c) 0 ∗ (bigSepL hs fun h => Af D c 1 (0, h))
            ∗ bigSepL [1, 2, 3, 4, 5, 6, 7] fun q => bigSepL hs fun h => Peers c q h)) := by
  rw [Pipeline.chain_cons, Pipeline.chain_cons]
  iintro ⟨#HC, ⟨Hx, HO⟩, Hb, Hs, HR⟩
  iapply (WP_step (mmStep_spec D c 0)) $$ [Hx Hs]
  · isplitl [Hx]; · iexact Hx
    iexact Hs
  iintro ⟨Hx, Hs⟩
  iapply (WP_step (barWait_spec D K c _ hO)) $$ [Hb HO]
  · isplitr; · iexact HC
    isplitl [Hb]; · iexact Hb
    iexact HO
  iintro ⟨⟨Hp, Hz⟩, HO⟩
  ihave Hp := (peers_intro c) $$ Hp
  ihave Hp := (Entails.of_eq ((big1 fun x : QH => Peers (F := F) c x.1 x.2).trans (blocks_cons _))) $$ Hp
  icases Hp with ⟨Hp, Hps⟩
  ihave HA := (tiles_start D c 0) $$ [Hs HR Hp]
  · isplitl [Hs]; · iexact Hs
    isplitl [HR]; · iexact HR
    iexact Hp
  iapply (WP_last (ph1s_spec D K c 0 O)) $$ [HO HA]
  · isplitr; · iexact HC
    isplitl [HO]; · iexact HO
    iexact HA
  iintro ⟨HO, HA⟩
  isplitl [Hx HO]
  · isplitl [Hx]; · iexact Hx
    iexact HO
  isplitl [Hz]; · iexact Hz
  isplitl [HA]; · iexact HA
  iexact Hps

/-- What is still owed for later steps after phase 1. -/
def O23 : Tal := oweL c 1 order2 + oweL c 2 order3

theorem blocks_spec :
    iprop(Ctx D K ∗ xPts D c ∗ owesX c (Osend c) ∗ (atPos ER (barCell c) 0 ∅ 0 ∗ cred (tallyAt (barCell c) () 3))
        ∗ (bigSep Finset.univ fun x : QH => sAny c x.1 x.2) ∗ (bigSep Finset.univ fun x : QH => Rest c x.1 x.2))
      ⊢ WP c (Pipeline.chain (blocks8.flatMap (items1 c (D.wV c))))
          (fun _ => iprop(xPts D c ∗ owesX c (O23 c) ∗ semVal (barCell c) 0 ∗ bigSep Finset.univ fun x : QH => Af D c 1 x)) := by
  rw [big1, big1, big1]
  rw [show blocks8.flatMap (items1 c (D.wV c))
      = (mmStep (D.wV c) 0 :: barWait :: hs.map (ph1 c 0))
        ++ ([1, 2, 3, 4, 5, 6, 7] : List (Fin 8)).flatMap (fun q => mmStep (D.wV c) q :: hs.map (ph1 c q)) from rfl,
    chain_append, chain_flatMap]
  rw [blocks_cons, blocks_cons, blocks_cons]
  have eO : Osend c = oweL c 0 (tiles1 0)
      + (oweL c 0 (([1, 2, 3, 4, 5, 6, 7] : List (Fin 8)).flatMap tiles1) + O23 c) := by
    rw [← add_assoc, add_comm (oweL c 0 (tiles1 0)), ← oweL_append]; rfl
  have hO := Above.send c
  rw [eO] at hO ⊢
  iintro ⟨#HC, Hx, HO, Hb, ⟨Hs, Hss⟩, HR, HRs⟩
  iapply (WP_step (block0_spec D K c _ hO)) $$ [Hx HO Hb Hs HR]
  · isplitr; · iexact HC
    isplitl [Hx HO]
    · isplitl [Hx]; · iexact Hx
      iexact HO
    isplitl [Hb]; · iexact Hb
    isplitl [Hs]; · iexact Hs
    iexact HR
  iintro ⟨⟨Hx, HO⟩, Hz, HA, Hps⟩
  ihave HB := (show iprop((bigSepL ([1, 2, 3, 4, 5, 6, 7] : List (Fin 8)) fun q => bigSepL hs fun h => sAny (F := F) c q h)
        ∗ (bigSepL [1, 2, 3, 4, 5, 6, 7] fun q => bigSepL hs fun h => Rest c q h)
        ∗ (bigSepL [1, 2, 3, 4, 5, 6, 7] fun q => bigSepL hs fun h => Peers c q h))
      ⊢ (bigSepL [1, 2, 3, 4, 5, 6, 7] fun q =>
        iprop((bigSepL hs fun h => sAny c q h) ∗ (bigSepL hs fun h => Rest c q h) ∗ bigSepL hs fun h => Peers c q h) : sProp 𝕄) from by
      have hn : ([1, 2, 3, 4, 5, 6, 7] : List (Fin 8)).Nodup := by decide
      rw [← bigSep_eq_bigSepL_of_eq _ rfl hn, ← bigSep_eq_bigSepL_of_eq _ rfl hn, ← bigSep_eq_bigSepL_of_eq _ rfl hn,
        ← bigSep_eq_bigSepL_of_eq _ rfl hn, ← bigSep_sep', ← bigSep_sep']) $$ [Hss HRs Hps]
  · isplitl [Hss]; · iexact Hss
    isplitl [HRs]; · iexact HRs
    iexact Hps
  iapply (WP_last (WP_chain (Ctx D K) (fun q => Pipeline.chain (mmStep (D.wV c) q :: hs.map (ph1 c q)))
    (fun l => iprop(xPts D c ∗ owesX c (oweL c 0 (l.flatMap tiles1) + O23 c)))
    (fun q => iprop((bigSepL hs fun h => sAny c q h) ∗ (bigSepL hs fun h => Rest c q h) ∗ bigSepL hs fun h => Peers c q h))
    (fun q => bigSepL hs fun h => Af D c 1 (q, h))
    (fun q l => by
      rw [show oweL c 0 ((q :: l).flatMap tiles1) + O23 c = oweL c 0 (tiles1 q) + (oweL c 0 (l.flatMap tiles1) + O23 c) from by
        rw [List.flatMap_cons, oweL_append, add_comm (oweL c 0 (l.flatMap tiles1)), add_assoc]]
      exact block_spec D K c q _) [1, 2, 3, 4, 5, 6, 7])) $$ [Hx HO HB]
  · isplitr; · iexact HC
    isplitl [Hx HO]
    · isplitl [Hx]; · iexact Hx
      iexact HO
    iexact HB
  rw [show oweL c 0 (([] : List (Fin 8)).flatMap tiles1) + O23 c = O23 c from zero_add _]
  iintro ⟨⟨Hx, HO⟩, HAs⟩
  isplitl [Hx]; · iexact Hx
  isplitl [HO]; · iexact HO
  isplitl [Hz]; · iexact Hz
  isplitl [HA]; · iexact HA
  iexact HAs

/-! ## The later phases -/

theorem phase2_spec :
    iprop(Ctx D K ∗ owesX c (O23 c) ∗ bigSep Finset.univ fun x : QH => Af D c 1 x)
      ⊢ WP c (Pipeline.chain (order2.map (ph2 c)))
          (fun _ => iprop(owesX c (oweL c 2 order3) ∗ bigSep Finset.univ fun x : QH => Af D c 2 x)) := by
  rw [big_order2, big_order2]
  unfold O23
  iintro H
  iapply (WP_last (WP_chain (Ctx D K) (ph2 c) (fun l => owesX c (oweL c 1 l + oweL c 2 order3)) (Af D c 1) (Af D c 2)
    (fun x l => by
      rw [show oweL c 1 (x :: l) + oweL c 2 order3 = (oweL c 1 l + oweL c 2 order3) + owe1 c 1 x from add_right_comm _ _ _]
      exact ph2_spec D K c x _
        (((Above.list c 1 l (by decide)).add (Above.list c 2 order3 (by decide))).add (Above.one c 1 x (by decide)))) order2)) $$ H
  rw [show oweL c 1 [] + oweL c 2 order3 = oweL c 2 order3 from zero_add _]
  iintro H
  iexact H

theorem phase3_spec :
    iprop(Ctx D K ∗ owesX c (oweL c 2 order3) ∗ bigSep Finset.univ fun x : QH => Af D c 2 x)
      ⊢ WP c (Pipeline.chain (order3.map (ph3 c)))
          (fun _ => iprop(owesX c 0 ∗ bigSep Finset.univ fun x : QH => Af D c 3 x)) := by
  rw [big_order3, big_order3]
  exact WP_chain (Ctx D K) (ph3 c) (fun l => owesX c (oweL c 2 l)) (Af D c 2) (Af D c 3)
    (fun x l => ph3_spec D K c x _ ((Above.list c 2 l (by decide)).add (Above.one c 2 x (by decide)))) order3

theorem phase5_spec (f : (cc0_stg2_0 : Ref sig .tc).ty.Contents (Elt F)) :
    iprop(Ctx D K ∗ owesX c 0 ∗ oPts c f ∗ bigSep Finset.univ fun x : QH => Af D c 3 x)
      ⊢ WP c (Pipeline.chain (blocks8.map (ph5 c)))
          (fun _ => iprop(owesX c 0 ∗ oPts c (D.outV c) ∗ bigSep Finset.univ fun x : QH => Ag c x)) := by
  rw [big1, big1]
  iintro ⟨#HC, HO, Ho, HA⟩
  iapply (WP_last (WP_chain (Ctx D K) (ph5 c) (fun l => iprop(owesX c 0 ∗ OutS D c l))
    (fun q => bigSepL hs fun h => Af D c 3 (q, h)) (fun q => bigSepL hs fun h => Ag c (q, h))
    (fun q l => ph5_spec D K c q l) blocks8)) $$ [HO Ho HA]
  · isplitr; · iexact HC
    isplitl [HO Ho]
    · isplitl [HO]; · iexact HO
      unfold OutS
      iexists f
      isplitr; swap
      · iexact Ho
      ipureintro
      intro h
      exact absurd (show own c ∈ blocks8 by generalize own c = q; revert q; decide) h
    iexact HA
  unfold OutS
  iintro ⟨⟨HO, ⟨%g, %hg, Ho⟩⟩, HA⟩
  rw [hg List.not_mem_nil]
  isplitl [HO]; · iexact HO
  isplitl [Ho]; · iexact Ho
  iexact HA

theorem phase6_spec :
    iprop(Ctx D K ∗ owesX c 0 ∗ bigSep Finset.univ fun x : QH => Ag c x)
      ⊢ WP c (Pipeline.chain (blocks8.map (ph6 c)))
          (fun _ => iprop(owesX c 0 ∗ bigSep Finset.univ fun x : QH => Fin1 c x.1 x.2)) := by
  rw [big1, big1]
  exact WP_chain (Ctx D K) (ph6 c) (fun _ => owesX c 0) (fun q => bigSepL hs fun h => Ag c (q, h))
    (fun q => bigSepL hs fun h => Fin1 c q h) (fun q _ => ph6_spec D K c q) blocks8

/-- All steps after the signals and the load of w. -/
theorem items_spec (f : (cc0_stg2_0 : Ref sig .tc).ty.Contents (Elt F)) :
    iprop(Ctx D K ∗ xPts D c ∗ owesX c (Osend c) ∗ oPts c f ∗ (atPos ER (barCell c) 0 ∅ 0 ∗ cred (tallyAt (barCell c) () 3))
        ∗ (bigSep Finset.univ fun x : QH => sAny c x.1 x.2) ∗ (bigSep Finset.univ fun x : QH => Rest c x.1 x.2))
      ⊢ WP c (Pipeline.chain (items c (D.wV c)))
          (fun _ => iprop(xPts D c ∗ owesX c 0 ∗ oPts c (D.outV c) ∗ semVal (barCell c) 0
            ∗ bigSep Finset.univ fun x : QH => Fin1 c x.1 x.2)) := by
  unfold items
  rw [chain_append, chain_append, chain_append, chain_append, bind_assoc, bind_assoc, bind_assoc]
  iintro ⟨#HC, Hx, HO, Ho, Hb, Hs, HR⟩
  iapply (WP_step (blocks_spec D K c)) $$ [Hx HO Hb Hs HR]
  · isplitr; · iexact HC
    isplitl [Hx]; · iexact Hx
    isplitl [HO]; · iexact HO
    isplitl [Hb]; · iexact Hb
    isplitl [Hs]; · iexact Hs
    iexact HR
  iintro ⟨Hx, HO, Hz, HA⟩
  iapply (WP_step (phase2_spec D K c)) $$ [HO HA]
  · isplitr; · iexact HC
    isplitl [HO]; · iexact HO
    iexact HA
  iintro ⟨HO, HA⟩
  iapply (WP_step (phase3_spec D K c)) $$ [HO HA]
  · isplitr; · iexact HC
    isplitl [HO]; · iexact HO
    iexact HA
  iintro ⟨HO, HA⟩
  iapply (WP_step (phase5_spec D K c f)) $$ [HO Ho HA]
  · isplitr; · iexact HC
    isplitl [HO]; · iexact HO
    isplitl [Ho]; · iexact Ho
    iexact HA
  iintro ⟨HO, Ho, HA⟩
  iapply (WP_last (phase6_spec D K c)) $$ [HO HA]
  · isplitr; · iexact HC
    isplitl [HO]; · iexact HO
    iexact HA
  iintro ⟨HO, HA⟩
  isplitl [Hx]; · iexact Hx
  isplitl [HO]; · iexact HO
  isplitl [Ho]; · iexact Ho
  isplitl [Hz]; · iexact Hz
  iexact HA

/-! ## The body -/

/-- A signal to the neighbour along `a`: it hands over the receive tiles that the neighbour will write. -/
theorem signal_spec (a : Fin 3) (O : Tal) :
    iprop(Ctx D K ∗ owesX c (O + tallyAt (barCell (nbD a c)) () 1) ∗ dutyTok ER (barCell (nbD a c)) 0 a ∗ barPay (nbD a c) a)
      ⊢ WP c (semSignalWord (nbD a c) barS 1#32) (fun _ => owesX c O) := by
  unfold WP owesX
  simp only [semSignalWord, Prog.lift]
  iintro ⟨#HC, ⟨%W, HO⟩, Ht, Hp⟩
  ihave #HI := (Ctx_inv D K (nbD a c, none)) $$ HC
  ihave #HR := (Ctx_reached D K (nbD a c, none)) $$ HC
  iapply (Rounds.wp_signal 𝒱₀ ER (sch D) (c : Thread nD τ) none (dst := (nbD a c : Thread nD τ)) (κ := K (nbD a c, none))
      (d := a) (by rw [duties_bar]; exact Finset.mem_univ _) ((amount_bar D (nbD a c) a).trans (by decide)) () O rfl)
    $$ [HO Ht Hp]
  · isplitr; · iexact HI
    isplitl [HO]; · iexact HO
    isplitl [Ht]; · iexact Ht
    isplitl [Hp]
    · rw [payload_bar]; iexact Hp
    iexact HR
  iintro HO
  rw [wp_ret]; imodintro
  iexists W
  iexact HO

/-- What device `c` starts with, buffers and what all know apart. -/
def start : sProp 𝕄 :=
  iprop((atPos ER (barCell c) 0 ∅ 0 ∗ cred (tallyAt (barCell c) () 3))
    ∗ (bigSep Finset.univ fun a : Fin 3 => dutyTok ER (barCell (nbD a c)) 0 a)
    ∗ (bigSep Finset.univ fun y : QH × Fin 3 => startR (F := F) c y) ∗ bigSep Finset.univ fun x : QH => startS c x)

theorem body_spec (f : (cc0_stg2_0 : Ref sig .tc).ty.Contents (Elt F)) :
    iprop(Ctx D K ∗ start c ∗ xPts D c ∗ wPts D c ∗ oPts c f ∗ owesX c (O₀ c)
        ∗ (bigSep Finset.univ fun x : QH => sAny c x.1 x.2) ∗ bigSep Finset.univ fun y : QH × Fin 3 => rAny c y.1.1 y.2 y.1.2)
      ⊢ WP c body (fun _ => iprop(wPts D c ∗ xPts D c ∗ owesX c 0 ∗ oPts c (D.outV c) ∗ semVal (barCell c) 0
            ∗ bigSep Finset.univ fun x : QH => Fin1 c x.1 x.2)) := by
  unfold start body O₀
  simp only [Prog.lift, Prog.bind_op, Prog.bind_ret, wp_deviceId, WP]
  rw [big3]
  iintro ⟨#HC, ⟨Hb, Ht, Hr, Hss⟩, Hx, Hw, Ho, HO, Hs, HR⟩
  ihave HR := (hand_over c) $$ HR
  icases HR with ⟨Hp, Hl⟩
  ihave Hp := (Entails.of_eq (big3 fun a => barPay (F := F) (nbD a c) a)) $$ Hp
  icases Ht with ⟨Ht0, Ht1, Ht2⟩
  icases Hp with ⟨Hp0, Hp1, Hp2⟩
  imod (rests_intro D K c) $$ [Hr Hl Hss] with HR
  · isplitr; · iexact HC
    isplitl [Hr]; · iexact Hr
    isplitl [Hl]; · iexact Hl
    iexact Hss
  iapply (WP_step (signal_spec D K c 0 _)) $$ [HO Ht0 Hp0]
  · isplitr; · iexact HC
    isplitl [HO]; · iexact HO
    isplitl [Ht0]; · iexact Ht0
    iexact Hp0
  iintro HO
  iapply (WP_step (signal_spec D K c 1 _)) $$ [HO Ht1 Hp1]
  · isplitr; · iexact HC
    isplitl [HO]; · iexact HO
    isplitl [Ht1]; · iexact Ht1
    iexact Hp1
  iintro HO
  iapply (WP_step (signal_spec D K c 2 _)) $$ [HO Ht2 Hp2]
  · isplitr; · iexact HC
    isplitl [HO]; · iexact HO
    isplitl [Ht2]; · iexact Ht2
    iexact Hp2
  iintro HO
  unfold WP wPts
  simp only [Prog.lift, Prog.bind_op, Prog.bind_ret]
  iapply (wp_load 𝒱₀ (c : Thread nD τ) none Set.univ (m := wM) (Finset.subset_univ _)) $$ Hw; iintro Hw
  iapply (WP_last (items_spec D K c f)) $$ [Hx HO Ho Hb Hs HR]
  · isplitr; · iexact HC
    isplitl [Hx]; · iexact Hx
    isplitl [HO]; · iexact HO
    isplitl [Ho]; · iexact Ho
    isplitl [Hb]; · iexact Hb
    isplitl [Hs]; · iexact Hs
    iexact HR
  iintro H
  isplitl [Hw]; · iexact Hw
  iexact H

end Cert.Cube
-- ==== Proof.Deal.lean ====
/-
What the launch deals to the devices: the buffers cut into tiles and put together again, the semaphores' invariants and
tokens, and the credit of what is owed.
-/
module

public import proofs.«01_k».proof.Proof.Body

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (c : Dev nD)

/-! ## Collections over the semaphores -/

omit [FloatOps F] in
theorem big_opt {I : Type} [Fintype I] [DecidableEq I] (Φ : Option I → sProp 𝕄) :
    bigSep Finset.univ Φ = iprop(Φ none ∗ bigSep Finset.univ fun i => Φ (some i)) := by
  rw [bigSep_univ_at Φ none]
  have e : (Finset.univ : Finset (Option I)).erase none = Finset.univ.map Function.Embedding.some := by
    ext k
    rcases k with _ | i <;> simp
  rw [e, BI.bigSep_map]
  rfl
omit [FloatOps F] in
/-- The kernel's own semaphores: the send semaphores and the receive semaphores. -/
theorem big_XI (Φ : XI → sProp 𝕄) :
    bigSep Finset.univ Φ = iprop((bigSep Finset.univ fun x : QH => Φ (x, none)) ∗ bigSep Finset.univ fun y : QH × Fin 3 => Φ (y.1, some y.2)) := by
  rw [bigSep_univ_prod, bigSep_congr (s := Finset.univ) (fun (x : QH) _ => big_opt fun k : Option (Fin 3) => Φ (x, k)), bigSep_sep',
    bigSep_univ_prod fun y : QH × Fin 3 => Φ (y.1, some y.2)]
omit [FloatOps F] in
theorem big_KI (Φ : KI → sProp 𝕄) :
    bigSep Finset.univ Φ = iprop(Φ none ∗ (bigSep Finset.univ fun x : QH => Φ (some (x, none)))
      ∗ bigSep Finset.univ fun y : QH × Fin 3 => Φ (some (y.1, some y.2))) := by
  rw [big_opt, big_XI]

/-! ## The buffers in tiles -/

omit [FloatOps F] in
theorem send_split (f : Buf (Elt F) ((c : Thread nD τ).loc cc0_scratch0)) :
    ((c : Thread nD τ).loc cc0_scratch0 ↦{fullShare} f : sProp 𝕄) ⊢ bigSep Finset.univ fun x : QH => sAny c x.1 x.2 := by
  have e : (sM.view.loc (c : Thread nD τ) ↦[Finset.univ.biUnion fun x : QH => (rectS x.1 x.2).set]{fullShare} f : sProp 𝕄)
      = bigSep Finset.univ fun x : QH => sM.view.loc (c : Thread nD τ) ↦[(rectS x.1 x.2).set]{fullShare} f :=
    pointsTo_biUnion (ℓ := sM.view.loc (c : Thread nD τ)) Finset.univ (fun x : QH => (rectS x.1 x.2).set)
      (fun x _ y _ e => sV_disjoint x y e)
  rw [sV_cover] at e
  refine (Entails.of_eq e).trans (bigSep_mono fun x _ => ?_)
  show (sM.view.loc (c : Thread nD τ) ↦[(rectS x.1 x.2).set]{fullShare} f : sProp 𝕄) ⊢ sAny c x.1 x.2
  unfold sAny
  rw [sV_set]
  iintro H
  iexists f
  iexact H

omit [FloatOps F] in
theorem recv_split (f : Buf (Elt F) ((c : Thread nD τ).loc cc0_scratch1)) :
    ((c : Thread nD τ).loc cc0_scratch1 ↦{fullShare} f : sProp 𝕄) ⊢ bigSep Finset.univ fun y : QH × Fin 3 => rAny c y.1.1 y.2 y.1.2 := by
  have e : (rM.view.loc (c : Thread nD τ) ↦[Finset.univ.biUnion fun y : QH × Fin 3 => (rectR y.1.1 y.2 y.1.2).set]{fullShare} f : sProp 𝕄)
      = bigSep Finset.univ fun y : QH × Fin 3 => rM.view.loc (c : Thread nD τ) ↦[(rectR y.1.1 y.2 y.1.2).set]{fullShare} f :=
    pointsTo_biUnion (ℓ := rM.view.loc (c : Thread nD τ)) Finset.univ (fun y : QH × Fin 3 => (rectR y.1.1 y.2 y.1.2).set)
      (fun x _ y _ e => rV_disjoint x y e)
  rw [rV_cover] at e
  refine (Entails.of_eq e).trans (bigSep_mono fun y _ => ?_)
  show (rM.view.loc (c : Thread nD τ) ↦[(rectR y.1.1 y.2 y.1.2).set]{fullShare} f : sProp 𝕄) ⊢ rAny c y.1.1 y.2 y.1.2
  unfold rAny
  rw [rV_set]
  iintro H
  iexists f
  iexact H

theorem send_join : (bigSep Finset.univ fun x : QH => sAny (F := F) c x.1 x.2)
    ⊢ iprop(∃ f : Buf (Elt F) ((c : Thread nD τ).loc cc0_scratch0), (c : Thread nD τ).loc cc0_scratch0 ↦{fullShare} f) := by
  unfold sAny
  iintro H
  ihave H := (BI.bigSep_exists_pi Finset.univ (fun (x : QH) (f : Buf (Elt F) (sM.view.loc (c : Thread nD τ))) =>
    (sM.view.loc (c : Thread nD τ) ↦[(sV x.1 x.2).view.set]{fullShare} f : sProp 𝕄))) $$ H
  icases H with ⟨%fs, H⟩
  ihave H := (pointsTo_biUnion_join Finset.univ (fun x : QH => (sV x.1 x.2).view.set) fs (fs (0, 0))
    (fun x _ y _ e => by rw [sV_set, sV_set]; exact sV_disjoint x y e)) $$ H
  icases H with ⟨%g, -, H⟩
  iexists g
  rw [show (Finset.univ.biUnion fun x : QH => (sV x.1 x.2).view.set) = Finset.univ from
    (Finset.biUnion_congr rfl fun x _ => sV_set x.1 x.2).trans sV_cover]
  iexact H

theorem recv_join : (bigSep Finset.univ fun y : QH × Fin 3 => rAny (F := F) c y.1.1 y.2 y.1.2)
    ⊢ iprop(∃ f : Buf (Elt F) ((c : Thread nD τ).loc cc0_scratch1), (c : Thread nD τ).loc cc0_scratch1 ↦{fullShare} f) := by
  unfold rAny
  iintro H
  ihave H := (BI.bigSep_exists_pi Finset.univ (fun (y : QH × Fin 3) (f : Buf (Elt F) (rM.view.loc (c : Thread nD τ))) =>
    (rM.view.loc (c : Thread nD τ) ↦[(rV y.1.1 y.2 y.1.2).view.set]{fullShare} f : sProp 𝕄))) $$ H
  icases H with ⟨%fs, H⟩
  ihave H := (pointsTo_biUnion_join Finset.univ (fun y : QH × Fin 3 => (rV y.1.1 y.2 y.1.2).view.set) fs (fs ((0, 0), 0))
    (fun x _ y _ e => by rw [rV_set, rV_set]; exact rV_disjoint x y e)) $$ H
  icases H with ⟨%g, -, H⟩
  iexists g
  rw [show (Finset.univ.biUnion fun y : QH × Fin 3 => (rV y.1.1 y.2 y.1.2).view.set) = Finset.univ from
    (Finset.biUnion_congr rfl fun y _ => rV_set y.1.1 y.2 y.1.2).trans rV_cover]
  iexact H

/-! ## The semaphores' ghost state -/

def allCells : Finset (GSem nD τ sig) := Finset.univ.map ⟨kcell, kcell_injective⟩

/-- A token for each of three duties of each semaphore. -/
abbrev tokOf (x : (Dev nD × KI) × Fin 3) : GSem nD τ sig × ℕ × Fin 3 := (kcell x.1, 0, x.2)
theorem tokOf_injective : Function.Injective tokOf := fun x y e =>
  Prod.ext (kcell_injective (congrArg Prod.fst e)) (congrArg (fun z : GSem nD τ sig × ℕ × Fin 3 => z.2.2) e)
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The tokens of device `c`'s own semaphores. -/
def toks : sProp 𝕄 := bigSep Finset.univ fun k : KI => bigSep Finset.univ fun d : Fin 3 => dutyTok ER (kcell (c, k)) 0 d
def posns : sProp 𝕄 := bigSep Finset.univ fun k : KI => atPos ER (kcell (c, k)) 0 ∅ 0

/-- What device `c` is dealt at first. -/
def G : sProp 𝕄 :=
  iprop((bigSep Finset.univ fun k : KI => roundState ER (sch D) (kcell (c, k)) 0)
    ∗ (posns c ∗ bigSep Finset.univ fun k : KI => reached ER (kcell (c, k)) 0) ∗ toks c)

theorem fund_all : BI.own (ER (initOf allCells allToks)) ⊢ (|==> bigSep Finset.univ (G D) : sProp 𝕄) := by
  have hX (Φ : GSem nD τ sig → sProp 𝕄) : bigSep allCells Φ = bigSep Finset.univ fun c : Dev nD => bigSep Finset.univ fun k : KI => Φ (kcell (c, k)) := by
    unfold allCells; rw [BI.bigSep_map, bigSep_univ_prod]; rfl
  have hT : bigSep allToks (fun x => (dutyTok ER x.1 x.2.1 x.2.2 : sProp 𝕄)) = bigSep Finset.univ fun c : Dev nD => toks c := by
    unfold allToks; rw [BI.bigSep_map, bigSep_univ_prod, bigSep_univ_prod]; rfl
  iintro HX
  imod (Rounds.fund ER (sch D) allCells allToks) $$ HX with ⟨Hst, Hr, Hat, Htok⟩
  imodintro
  ihave Hst' := (Entails.of_eq (hX fun g => roundState ER (sch D) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posns; simp only [bigSep_sep']
  isplitl [Hst']; · iexact Hst'
  isplitl [Hat' Hr']
  · isplitl [Hat'] <;> iassumption
  iexact Htok'

omit [FloatOps F] in
theorem unscopedSems0_eq : (unscopedSems0 c : sProp 𝕄) = semVal (barCell c) 0 := by
  unfold unscopedSems0; rw [bigSep_eq_bigSepL_of_eq [SemLoc.reg barS] (by decide +kernel) (by decide)]; rfl

omit [FloatOps F] in
theorem sems0_eq :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [unscopedSems0_eq, big_opt]
  unfold Pipeline.ownSems0
  iintro ⟨H, HB⟩
  isplitl [HB]; · iexact HB
  iexact H

theorem core_alloc :
    iprop(Pipeline.ownSems0 (Ix := Unit) (Name := ℕ) (U := UU) (Lvl := ℕ) (Val := Elt F) (τ := τ) osem c ∗ unscopedSems0 c ∗ G D c)
      ⊢ |={Set.univ}=> iprop((bigSep Finset.univ fun k => iprop(∃ κ : ℕ, cellInv ER (sch D) κ (kcell (c, k))))
          ∗ (posns c ∗ bigSep Finset.univ fun k : KI => reached ER (kcell (c, k)) 0) ∗ toks c) := by
  have e : iprop((bigSep Finset.univ fun k : KI => semVal (kcell (c, k)) 0) ∗ bigSep Finset.univ fun k : KI => roundState ER (sch D) (kcell (c, k)) 0)
      ⊢ (|={Set.univ}=> bigSep Finset.univ fun k => iprop(∃ κ : ℕ, cellInv ER (sch D) κ (kcell (c, k))) : sProp 𝕄) := by
    rw [← bigSep_sep']
    exact (bigSep_mono fun k _ => (Rounds.body_intro ER (sch D) (kcell (c, k))).trans inv_alloc).trans (BI.bigSep_fupd _ _)
  unfold G
  iintro ⟨Hos, Hus, Hst, Hat, Htok⟩
  ihave Hv := (sems0_eq (F := F) c) $$ [Hos Hus]
  · isplitl [Hos] <;> iassumption
  imod e $$ [Hv Hst] with Hinv
  · isplitl [Hv] <;> iassumption
  imodintro
  isplitl [Hinv]; · iexact Hinv
  isplitl [Hat]; · iexact Hat
  iexact Htok

/-- The tokens of the duties that device `c` pays. -/
def payToks : sProp 𝕄 :=
  iprop((bigSep Finset.univ fun a : Fin 3 => dutyTok ER (barCell (nbD a c)) 0 a)
    ∗ (bigSep Finset.univ fun x : QH => dutyTok ER (sCell c x.1 x.2) 0 0) ∗ bigSep Finset.univ fun y : QH × Fin 3 => tokR (F := F) c y.1.1 y.2 y.1.2)

omit [FloatOps F] in
/-- The tokens dealt around: each to the device that pays the duty. -/
theorem toks_around : (bigSep Finset.univ fun c : Dev nD => toks (F := F) c) ⊢ bigSep Finset.univ fun c : Dev nD => payToks c := by
  have h1 : (bigSep Finset.univ fun c : Dev nD => bigSep Finset.univ fun a : Fin 3 => (dutyTok ER (barCell c) 0 a : sProp 𝕄))
      = bigSep Finset.univ fun c : Dev nD => bigSep Finset.univ fun a : Fin 3 => dutyTok ER (barCell (nbD a c)) 0 a := by
    rw [bigSep_univ_comm, bigSep_univ_comm fun (c : Dev nD) (a : Fin 3) => (dutyTok ER (barCell (nbD a c)) 0 a : sProp 𝕄)]
    exact bigSep_congr fun a _ => bigSep_univ_equiv (nbE a) fun c : Dev nD => (dutyTok ER (barCell c) 0 a : sProp 𝕄)
  have h3 : (bigSep Finset.univ fun c : Dev nD => bigSep Finset.univ fun y : QH × Fin 3 => (dutyTok ER (rCell c y.1.1 y.2 y.1.2) 0 0 : sProp 𝕄))
      = bigSep Finset.univ fun c : Dev nD => bigSep Finset.univ fun y : QH × Fin 3 => tokR (F := F) c y.1.1 y.2 y.1.2 := by
    rw [bigSep_univ_comm, bigSep_univ_comm fun (c : Dev nD) (y : QH × Fin 3) => tokR (F := F) c y.1.1 y.2 y.1.2]
    exact bigSep_congr fun y _ => bigSep_univ_equiv (nbE (ax y.1.1 y.1.2 y.2)) fun c : Dev nD => (dutyTok ER (rCell c y.1.1 y.2 y.1.2) 0 0 : sProp 𝕄)
  have h0 (c : Dev nD) : toks (F := F) c ⊢ iprop((bigSep Finset.univ fun a : Fin 3 => dutyTok ER (barCell c) 0 a)
      ∗ (bigSep Finset.univ fun x : QH => dutyTok ER (sCell c x.1 x.2) 0 0) ∗ bigSep Finset.univ fun y : QH × Fin 3 => dutyTok ER (rCell c y.1.1 y.2 y.1.2) 0 0) := by
    have e2 : (bigSep Finset.univ fun x : QH => bigSep Finset.univ fun d : Fin 3 => (dutyTok ER (sCell c x.1 x.2) 0 d : sProp 𝕄))
        ⊢ bigSep Finset.univ fun x : QH => dutyTok ER (sCell c x.1 x.2) 0 0 :=
      bigSep_mono fun x _ => bigSep_elim (Φ := fun d : Fin 3 => (dutyTok ER (sCell c x.1 x.2) 0 d : sProp 𝕄)) (Finset.mem_univ 0)
    have e3 : (bigSep Finset.univ fun y : QH × Fin 3 => bigSep Finset.univ fun d : Fin 3 => (dutyTok ER (rCell c y.1.1 y.2 y.1.2) 0 d : sProp 𝕄))
        ⊢ bigSep Finset.univ fun y : QH × Fin 3 => dutyTok ER (rCell c y.1.1 y.2 y.1.2) 0 0 :=
      bigSep_mono fun y _ => bigSep_elim (Φ := fun d : Fin 3 => (dutyTok ER (rCell c y.1.1 y.2 y.1.2) 0 d : sProp 𝕄)) (Finset.mem_univ 0)
    unfold toks
    rw [big_KI]
    iintro ⟨H1, H2, H3⟩
    isplitl [H1]; · iexact H1
    isplitl [H2]
    · iapply e2; iexact H2
    iapply e3; iexact H3
  have h4 : (bigSep Finset.univ fun c : Dev nD => iprop((bigSep Finset.univ fun a : Fin 3 => dutyTok ER (barCell c) 0 a)
      ∗ (bigSep Finset.univ fun x : QH => dutyTok ER (sCell c x.1 x.2) 0 0) ∗ bigSep Finset.univ fun y : QH × Fin 3 => dutyTok ER (rCell c y.1.1 y.2 y.1.2) 0 0))
      = bigSep Finset.univ fun c : Dev nD => payToks (F := F) c := by
    unfold payToks
    rw [bigSep_sep', bigSep_sep', bigSep_sep', bigSep_sep', h1, h3]
  rw [← h4]
  exact bigSep_mono fun c _ => h0 c

/-- What device `c` keeps of the ghost state. -/
def linear : sProp 𝕄 := iprop(posns (F := F) c ∗ payToks c)
def G' : sProp 𝕄 := iprop((∃ K, records D K) ∗ linear c)

theorem regroup :
    (bigSep Finset.univ fun c : Dev nD => iprop((bigSep Finset.univ fun k => iprop(∃ κ : ℕ, cellInv ER (sch D) κ (kcell (c, k))))
          ∗ (posns c ∗ bigSep Finset.univ fun k : KI => reached ER (kcell (c, k)) 0) ∗ toks c) : sProp 𝕄)
      ⊢ bigSep Finset.univ (G' D) := by
  rw [bigSep_sep', bigSep_sep', bigSep_sep', ← bigSep_univ_prod (fun ck : Dev nD × KI => iprop(∃ κ : ℕ, cellInv ER (sch D) κ (kcell ck))),
    ← bigSep_univ_prod (fun ck : Dev nD × KI => (reached ER (kcell ck) 0 : sProp 𝕄))]
  have e (K : Dev nD × KI → ℕ) : iprop(records D K ∗ bigSep Finset.univ fun c : Dev nD => linear (F := F) c) ⊢ bigSep Finset.univ (G' D) :=
    BI.bigSep_with_persistent fun c _ => by
      unfold G'
      iintro ⟨#HR, H⟩
      isplitr
      · iexists K; iexact HR
      iexact H
  iintro ⟨HI, ⟨Hat, #HR⟩, Htok⟩
  ihave HK := (BI.bigSep_exists_pi Finset.univ (fun (ck : Dev nD × KI) (κ : ℕ) => (cellInv ER (sch D) κ (kcell ck) : sProp 𝕄))) $$ HI
  icases HK with ⟨%K, #HI⟩
  ihave Htk := (toks_around (F := F)) $$ Htok
  iapply (e K)
  isplitr
  · unfold records
    isplitl; · iexact HI
    iexact HR
  unfold linear
  rw [bigSep_sep']
  isplitl [Hat]; · iexact Hat
  iexact Htk

theorem glob : (bigSep Finset.univ fun c => iprop(Pipeline.ownSems0 (Ix := Unit) (Name := ℕ) (U := UU) (Lvl := ℕ) (Val := Elt F) (τ := τ) osem c ∗ unscopedSems0 c ∗ G D c) : sProp 𝕄)
    ⊢ |={Set.univ}=> bigSep Finset.univ (G' D) :=
  ((bigSep_mono fun c _ => core_alloc D c).trans (BI.bigSep_fupd _ _)).trans (BI.fupd_mono (regroup D))

/-! ## The credit of what is owed -/

theorem kcell_eq_iff (a b : Dev nD × KI) : kcell a = kcell b ↔ a = b := kcell_injective.eq_iff

theorem owe1_bar (d : Dev nD) (t : Fin 3) (x : QH) : owe1 d t x (barCell c) () = 0 := by
  unfold owe1
  split
  · rw [tallyAt_ne_cell fun h => by
      have := (kcell_eq_iff (c, none) (nbD (ax x.1 x.2 t) d, some ((x.1, x.2), some t))).mp h
      cases this]
    rfl
  · rfl

theorem owe1_r (d : Dev nD) (t : Fin 3) (x : QH) (q : Fin 8) (s : Fin 3) (h : Fin 4) :
    owe1 d t x (rCell c q s h) () = if t = s ∧ x = (q, h) ∧ d = nbD (ax q h s) c ∧ s.val < stp q h c then N else 0 := by
  unfold owe1
  by_cases e : stp x.1 x.2 d = t.val
  · rw [if_pos e, tallyAt_apply]
    by_cases e2 : rCell c q s h = rCell (nbD (ax x.1 x.2 t) d) x.1 t x.2
    · have e3 := (kcell_eq_iff (c, some ((q, h), some s)) (nbD (ax x.1 x.2 t) d, some ((x.1, x.2), some t))).mp e2
      obtain ⟨x1, x2⟩ := x
      simp only [Prod.mk.injEq, Option.some.injEq] at e3
      obtain ⟨e4, ⟨rfl, rfl⟩, rfl⟩ := e3
      rw [if_pos ⟨e2, rfl⟩, if_pos ⟨rfl, rfl, (nb_eq_iff _ _ _).mp e4.symm, by
        rw [← stp_nb]
        rw [e4, nb_nb]
        exact e⟩]
    · rw [if_neg fun h => e2 h.1, if_neg]
      rintro ⟨rfl, rfl, rfl, -⟩
      exact e2 (by rw [nb_nb])
  · rw [if_neg e, if_neg]
    · rfl
    · rintro ⟨rfl, rfl, rfl, h'⟩
      exact e ((stp_nb _ _ _ _).mpr h')

theorem oweL_apply (d : Dev nD) (t : Fin 3) (l : List QH) (hl : l.Nodup) (hu : Finset.univ = l.toFinset) (g : GSem nD τ sig) :
    oweL d t l g () = ∑ x : QH, owe1 d t x g () := by
  rw [hu, List.sum_toFinset _ hl]
  clear hl hu
  induction l with
  | nil => rfl
  | cons x l ih =>
    rw [List.map_cons, List.sum_cons, ← ih, add_comm]
    rfl

theorem Osend_apply (d : Dev nD) (g : GSem nD τ sig) : Osend d g () = ∑ t : Fin 3, ∑ x : QH, owe1 d t x g () := by
  rw [Fin.sum_univ_three, ← oweL_apply d 0 order1 order1_nodup order1_univ, ← oweL_apply d 1 order2 order2_nodup order2_univ,
    ← oweL_apply d 2 order3 order3_nodup order3_univ, add_assoc]
  rfl

theorem tally_bar (d : Dev nD) (a : Fin 3) : (tallyAt (barCell (nbD a d)) () 1 : Tal) (barCell c) () = if d = nbD a c then 1 else 0 := by
  rw [tallyAt_apply]
  by_cases h : d = nbD a c
  · rw [if_pos h, h, nb_nb, if_pos ⟨rfl, rfl⟩]
  · rw [if_neg h, if_neg]
    rintro ⟨e, -⟩
    have e' := congrArg Prod.fst ((kcell_eq_iff (c, none) (nbD a d, none)).mp e)
    exact h ((nb_eq_iff _ _ _).mp e'.symm)
theorem tally_bar_r (d : Dev nD) (q : Fin 8) (s : Fin 3) (h : Fin 4) : (tallyAt (barCell d) () 1 : Tal) (rCell c q s h) () = 0 := by
  rw [tallyAt_ne_cell fun h' => by
    have := (kcell_eq_iff (c, some ((q, h), some s)) (d, none)).mp h'
    cases this]
  rfl

theorem O₀_apply (d : Dev nD) (g : GSem nD τ sig) : O₀ d g () = Osend d g () + (tallyAt (barCell (nbD 2 d)) () 1 : Tal) g ()
    + (tallyAt (barCell (nbD 1 d)) () 1 : Tal) g () + (tallyAt (barCell (nbD 0 d)) () 1 : Tal) g () := rfl

theorem owed_bar : ∑ d : Dev nD, O₀ d (barCell c) () = 3 := by
  rw [Finset.sum_congr rfl fun d _ => (O₀_apply d (barCell c)).trans (by
    rw [Osend_apply, Finset.sum_eq_zero fun t _ => Finset.sum_eq_zero fun x _ => owe1_bar c d t x, tally_bar, tally_bar, tally_bar])]
  rw [Finset.sum_add_distrib, Finset.sum_add_distrib, Finset.sum_add_distrib, Finset.sum_const_zero, Finset.sum_ite_eq', Finset.sum_ite_eq',
    Finset.sum_ite_eq', if_pos (Finset.mem_univ _), if_pos (Finset.mem_univ _), if_pos (Finset.mem_univ _)]

theorem owed_r (q : Fin 8) (s : Fin 3) (h : Fin 4) :
    ∑ d : Dev nD, O₀ d (rCell c q s h) () = if s.val < stp q h c then N else 0 := by
  have e (d : Dev nD) : O₀ d (rCell c q s h) () = if d = nbD (ax q h s) c then (if s.val < stp q h c then N else 0) else 0 := by
    rw [O₀_apply, tally_bar_r, tally_bar_r, tally_bar_r, Osend_apply,
      Finset.sum_eq_single s (fun t _ ht => Finset.sum_eq_zero fun x _ => (owe1_r c d t x q s h).trans (if_neg fun e => ht e.1))
        (fun hs => absurd (Finset.mem_univ s) hs),
      Finset.sum_eq_single (q, h) (fun x _ hx => (owe1_r c d s x q s h).trans (if_neg fun e => hx e.2.1)) (fun hs => absurd (Finset.mem_univ _) hs),
      owe1_r]
    by_cases h1 : d = nbD (ax q h s) c
    · by_cases h2 : s.val < stp q h c
      · rw [if_pos ⟨rfl, rfl, h1, h2⟩, if_pos h1, if_pos h2, add_zero, add_zero, add_zero]
      · rw [if_neg fun e => h2 e.2.2.2, if_pos h1, if_neg h2]
    · rw [if_neg fun e => h1 e.2.2.1, if_neg h1]
  rw [Finset.sum_congr rfl fun d _ => e d, Finset.sum_ite_eq', if_pos (Finset.mem_univ _)]

theorem launch_at (g : GSem nD τ sig) (n : ℕ) (h : ∑ d : Dev nD, O₀ d g () = n) :
    tallyOn g (launchCredit (Pipeline.owing O₀) 0 g) = (tallyAt g () n : Tal) := by
  unfold tallyAt
  refine congrArg _ (Finsupp.ext fun u => ?_)
  cases u
  rw [Pipeline.launchCredit_owing, Finsupp.single_eq_same, h]

omit [FloatOps F] in
/-- The launch credit of device `c`: three units of the barrier, and the tiles that will arrive. -/
theorem creds : (Pipeline.launchCred O₀ c : sProp 𝕄) ⊢ iprop(cred (tallyAt (barCell c) () 3)
    ∗ bigSep Finset.univ fun y : QH × Fin 3 =>
        cred (tallyAt (rCell c y.1.1 y.2 y.1.2) () (if y.2.val < stp y.1.1 y.1.2 c then N else 0))) := by
  have e : (Pipeline.launchCred O₀ c : sProp 𝕄)
      ⊢ bigSep Finset.univ fun k : KI => cred (tallyOn (kcell (c, k)) (launchCredit (Pipeline.owing O₀) 0 (kcell (c, k)))) := by
    unfold Pipeline.launchCred
    have e' : bigSep (Finset.univ.map (⟨csem, csem_injective⟩ : KI ↪ SemLoc sig)) (fun sm : SemLoc sig =>
        (cred (tallyOn (((c : Thread nD τ), sm) : GSem nD τ sig) (launchCredit (Pipeline.owing O₀) 0 ((c : Thread nD τ), sm))) : sProp 𝕄))
        = bigSep Finset.univ fun k : KI => cred (tallyOn (kcell (c, k)) (launchCredit (Pipeline.owing O₀) 0 (kcell (c, k)))) :=
      BI.bigSep_map _
    rw [← e']
    exact BI.bigSep_subset (Finset.subset_univ _)
  have e2 : (bigSep Finset.univ fun y : QH × Fin 3 =>
        (cred (tallyOn (kcell (c, some (y.1, some y.2))) (launchCredit (Pipeline.owing O₀) 0 (kcell (c, some (y.1, some y.2))))) : sProp 𝕄))
      = bigSep Finset.univ fun y : QH × Fin 3 =>
        cred (tallyAt (rCell c y.1.1 y.2 y.1.2) () (if y.2.val < stp y.1.1 y.1.2 c then N else 0)) :=
    bigSep_congr fun y _ => congrArg _ (launch_at (rCell c y.1.1 y.2 y.1.2) _ (owed_r c y.1.1 y.2 y.1.2))
  refine e.trans ?_
  rw [big_KI, e2, show tallyOn (kcell (c, none)) (launchCredit (Pipeline.owing O₀) 0 (kcell (c, none))) = (tallyAt (barCell c) () 3 : Tal) from
    launch_at (barCell c) 3 (owed_bar c)]
  iintro ⟨H1, -, H3⟩
  isplitl [H1]; · iexact H1
  iexact H3

/-- What each device starts with. -/
theorem start_of : iprop(linear (F := F) c ∗ cred (tallyAt (barCell c) () 3)
    ∗ bigSep Finset.univ fun y : QH × Fin 3 =>
        cred (tallyAt (rCell c y.1.1 y.2 y.1.2) () (if y.2.val < stp y.1.1 y.1.2 c then N else 0))) ⊢ start c := by
  unfold linear posns payToks start startR startS
  rw [big_KI, bigSep_sep', bigSep_sep', bigSep_sep']
  iintro ⟨⟨⟨Hb, Hs, Hr⟩, Ht, Hts, Htr⟩, Hc, Hcr⟩
  isplitl [Hb Hc]
  · isplitl [Hb]; · iexact Hb
    iexact Hc
  isplitl [Ht]; · iexact Ht
  isplitl [Hr Hcr Htr]
  · isplitl [Hr]; · iexact Hr
    isplitl [Hcr]; · iexact Hcr
    iexact Htr
  isplitl [Hs]; · iexact Hs
  iexact Hts

/-! ## The end -/

/-- At the end all semaphores are at zero and both scratch buffers whole. -/
theorem finish : (bigSep Finset.univ fun x : QH => Fin1 (F := F) c x.1 x.2)
    ⊢ iprop(Pipeline.ownSems0 (Ix := Unit) (Name := ℕ) (U := UU) (Lvl := ℕ) (Val := Elt F) (τ := τ) osem c
        ∗ (∃ f : Buf (Elt F) ((c : Thread nD τ).loc cc0_scratch0), (c : Thread nD τ).loc cc0_scratch0 ↦{fullShare} f)
        ∗ (∃ f : Buf (Elt F) ((c : Thread nD τ).loc cc0_scratch1), (c : Thread nD τ).loc cc0_scratch1 ↦{fullShare} f)) := by
  have e : (bigSep Finset.univ fun x : QH => Fin1 (F := F) c x.1 x.2)
      = iprop(((bigSep Finset.univ fun x : QH => sAny c x.1 x.2) ∗ bigSep Finset.univ fun x : QH => semVal (sCell c x.1 x.2) 0)
        ∗ (bigSep Finset.univ fun y : QH × Fin 3 => rAny c y.1.1 y.2 y.1.2)
        ∗ bigSep Finset.univ fun y : QH × Fin 3 => semVal (rCell c y.1.1 y.2 y.1.2) 0) := by
    rw [← bigSep_sep', ← bigSep_sep', bigSep_univ_prod (fun y : QH × Fin 3 => iprop(rAny (F := F) c y.1.1 y.2 y.1.2 ∗ semVal (rCell c y.1.1 y.2 y.1.2) 0)),
      ← bigSep_sep']
    exact bigSep_congr fun x _ => by rw [big3]; rfl
  rw [e]
  unfold Pipeline.ownSems0
  rw [big_XI]
  iintro ⟨⟨Hs, Hzs⟩, Hr, Hzr⟩
  isplitl [Hzs Hzr]
  · isplitl [Hzs]; · iexact Hzs
    iexact Hzr
  isplitl [Hs]
  · iapply (send_join c); iexact Hs
  iapply (recv_join c); iexact Hr

end Cert.Cube
-- ==== Proof.BodyEq.lean ====
/-
The printed body is the list of steps of `Steps.lean`.

The printed body is cut into windows of sixty statements, each handing the words it computed to the next. Each window is
proved to be its steps followed by the values it hands on (`window…`), and `body_eq` joins the windows.
-/
module

public import proofs.«01_k».proof.Proof.Steps

@[expose] public section

noncomputable section

namespace Cert.Cube

open Cert.KernelIdeal Cert.KernelIdeal.Gen
open Idealize.ShloMosaic Idealize.ShloMosaic.TcCoe Idealize.SL.Sem

variable {F : FTy → Type} [FloatOps F]

/-- A step, run always or if a bit is set. -/
inductive Item (F : FTy → Type) [FloatOps F] where
  | always (p : KP F PUnit)
  | cond (c : BitVec 1) (p : KP F PUnit)

/-- A step's program. -/
def Item.prog : Item F → KP F PUnit
  | .always p => p
  | .cond c p => guard c p

/-- Some steps, then a program: the program stands in both branches of a conditional step, as the printed body has it. -/
def run {α : Type} : List (Item F) → KP F α → KP F α
  | [], r => r
  | .always p :: qs, r => p >>= fun _ => run qs r
  | .cond c p :: qs, r => if _h : c = 1#1 then (p >>= fun _ => run qs r) else run qs r

theorem run_cons {α : Type} (x : Item F) (qs : List (Item F)) (r : KP F α) :
    run (x :: qs) r = (x.prog >>= fun _ => run qs r) := by
  cases x with
  | always p => rfl
  | cond c p =>
    by_cases h : c = 1#1
    · simp only [run, Item.prog, guard, dif_pos h]
    · simp only [run, Item.prog, guard, dif_neg h, pure_bind]

/-- Joining a window that hands on `v` with the rest. -/
theorem run_bind {α β : Type} {m : KP F α} {K : α → KP F β} {xs : List (Item F)} {v : α} {r : KP F β}
    (hm : m = run xs (pure v)) (hK : K v = r) : (m >>= K) = run xs r := by
  subst hm hK
  induction xs with
  | nil => exact pure_bind _ _
  | cons x xs ih => simp only [run_cons, bind_assoc, ih]

theorem run_chain (xs : List (Item F)) (ys : List (KP F PUnit)) :
    run xs (Pipeline.chain ys) = Pipeline.chain (xs.map Item.prog ++ ys) := by
  induction xs with
  | nil => rfl
  | cons x xs ih => simp only [run_cons, List.map_cons, List.cons_append, Pipeline.chain_cons, ih]

/-- The steps of the phases. -/
abbrev mmI (w : Vec F S256x2048 .bf16) (q : Fin 8) : Item F := .always (mmStep w q)
abbrev ph1I (d0 : Dev nD) (q : Fin 8) (h : Fin 4) : Item F := .cond (cond1 q h d0) (send q 0 h d0)
abbrev ph2I (d0 : Dev nD) (qh : Fin 8 × Fin 4) : Item F := .cond (cond2 qh.1 qh.2 d0) (go2 d0 qh.1 qh.2)
abbrev ph3I (d0 : Dev nD) (qh : Fin 8 × Fin 4) : Item F := .cond (cond3 qh.1 qh.2 d0) (go3 d0 qh.1 qh.2)
abbrev ph5I (d0 : Dev nD) (q : Fin 8) : Item F := .cond (condE q d0) (fin5 q)
abbrev ph6I (d0 : Dev nD) (q : Fin 8) : Item F := .cond (condN q d0) (fin6 q)

/-- The words of phase 2's and phase 3's conditions before their test. -/
abbrev and2 (q : Fin 8) (h : Fin 4) (d0 : Dev nD) : BitVec 32 :=
  Scalar.extui (Scalar.andi (Scalar.xori (difW q h 0 d0) 1#1) (difW q h 1 d0))
abbrev and3 (q : Fin 8) (h : Fin 4) (d0 : Dev nD) : BitVec 32 :=
  Scalar.extui (Scalar.andi (Scalar.xori (difW q h 0 d0) 1#1)
    (Scalar.andi (Scalar.xori (difW q h 1 d0) 1#1) (difW q h 2 d0)))

variable (d0 : Dev nD) (w : Vec F S256x2048 .bf16)

theorem window139 : k0_part139 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (k0_pay169 w)
    = run ([ph1I d0 1 2, ph1I d0 1 3, mmI w 2, ph1I d0 2 0, ph1I d0 2 1, ph1I d0 2 2, ph1I d0 2 3, mmI w 3]) (pure 0#32) := by chain_rfl
theorem window140 : k0_part140 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (k0_pay169 w) 0#32
    = run ([ph1I d0 3 0, ph1I d0 3 1, ph1I d0 3 2, ph1I d0 3 3, mmI w 4, ph1I d0 4 0, ph1I d0 4 1, ph1I d0 4 2]) (pure ⟨⟩) := by chain_rfl
theorem window141 : k0_part141 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (k0_pay169 w)
    = run ([ph1I d0 4 3, mmI w 5, ph1I d0 5 0, ph1I d0 5 1, ph1I d0 5 2, ph1I d0 5 3, mmI w 6, ph1I d0 6 0]) (pure 1#32) := by chain_rfl
theorem window142 : k0_part142 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (k0_pay169 w) 1#32
    = run ([ph1I d0 6 1, ph1I d0 6 2, ph1I d0 6 3, mmI w 7, ph1I d0 7 0, ph1I d0 7 1, ph1I d0 7 2, ph1I d0 7 3]) (pure ⟨difW 1 0 0 d0, difW 1 0 1 d0, 1#1⟩) := by chain_rfl
theorem window143 : k0_part143 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (difW 1 0 0 d0) (difW 1 0 1 d0) 1#1
    = run (((order2.drop 0).take 5).map (ph2I d0)) (pure ⟨⟩) := by chain_rfl
theorem window144 : k0_part144 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0)
    = run (((order2.drop 5).take 6).map (ph2I d0)) (pure ⟨difW 2 2 0 d0, difW 2 2 1 d0⟩) := by chain_rfl
theorem window145 : k0_part145 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (difW 2 2 0 d0) (difW 2 2 1 d0)
    = run (((order2.drop 11).take 5).map (ph2I d0)) (pure ⟨and2 3 2 d0, 0#32⟩) := by chain_rfl
theorem window146 : k0_part146 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (and2 3 2 d0) 0#32
    = run (((order2.drop 16).take 6).map (ph2I d0)) (pure ⟨difW 4 2 0 d0, 0#32⟩) := by chain_rfl
theorem window147 : k0_part147 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (difW 4 2 0 d0) 0#32
    = run (((order2.drop 22).take 5).map (ph2I d0)) (pure (and2 7 3 d0)) := by chain_rfl
theorem window148 : k0_part148 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (and2 7 3 d0)
    = run (((order2.drop 27).take 5).map (ph2I d0)) (pure (and3 0 0 d0)) := by chain_rfl
theorem window149 : k0_part149 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (and3 0 0 d0)
    = run (((order3.drop 0).take 4).map (ph3I d0)) (pure ⟨difW 1 1 1 d0, difW 1 1 2 d0, Scalar.xori (difW 1 1 0 d0) 1#1, 1#1⟩) := by chain_rfl
theorem window150 : k0_part150 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (difW 1 1 1 d0) (difW 1 1 2 d0) (Scalar.xori (difW 1 1 0 d0) 1#1) 1#1
    = run (((order3.drop 4).take 4).map (ph3I d0)) (pure ⟨difW 2 0 0 d0, difW 2 0 1 d0, 1#32⟩) := by chain_rfl
theorem window151 : k0_part151 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (difW 2 0 0 d0) (difW 2 0 1 d0) 1#32
    = run (((order3.drop 8).take 4).map (ph3I d0)) (pure 1#32) := by chain_rfl
theorem window152 : k0_part152 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) 1#32
    = run (((order3.drop 12).take 3).map (ph3I d0)) (pure (and3 2 2 d0)) := by chain_rfl
theorem window153 : k0_part153 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (and3 2 2 d0)
    = run (((order3.drop 15).take 4).map (ph3I d0)) (pure ⟨difW 6 2 1 d0, difW 6 2 2 d0, Scalar.xori (difW 6 2 0 d0) 1#1, 1#1⟩) := by chain_rfl
theorem window154 : k0_part154 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (difW 6 2 1 d0) (difW 6 2 2 d0) (Scalar.xori (difW 6 2 0 d0) 1#1) 1#1
    = run (((order3.drop 19).take 4).map (ph3I d0)) (pure ⟨difW 5 2 0 d0, difW 5 2 1 d0, 0#32⟩) := by chain_rfl
theorem window155 : k0_part155 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (difW 5 2 0 d0) (difW 5 2 1 d0) 0#32
    = run (((order3.drop 23).take 4).map (ph3I d0)) (pure 1#32) := by chain_rfl
theorem window156 : k0_part156 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) 1#32
    = run (((order3.drop 27).take 3).map (ph3I d0)) (pure (and3 7 0 d0)) := by chain_rfl
theorem window157 : k0_part157 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (and3 7 0 d0)
    = run (((order3.drop 30).take 2).map (ph3I d0) ++ [0, 1, 2, 3, 4, 5].map (ph5I d0)) (pure (condE 6 d0)) := by chain_rfl

/-- The body's head: the device's number, the signals, the loads before the first store. -/
def head {α : Type} (K : Dev nD → Vec F S256x2048 .bf16 → Vec F S256x256 .bf16 → KP F α) : KP F α := do
  let d0 ← Prog.lift .deviceId
  semSignalWord (nbD 0 d0) barS 1#32
  semSignalWord (nbD 1 d0) barS 1#32
  semSignalWord (nbD 2 d0) barS 1#32
  let w ← Prog.lift (.load wM rectW.toLoadRect (View.loadsAt_vmem h_S256x2048))
  let x ← Prog.lift (.load xM (rectX 0).toLoadRect (View.loadsAt_vmem h_S256x256))
  let _ ← Prog.lift (.load sM (rectB 0).toLoadRect (View.loadsAt_vmem h_S1x256x2048))
  K d0 w x

theorem head_bind {α β : Type} (K : Dev nD → Vec F S256x2048 .bf16 → Vec F S256x256 .bf16 → KP F α) (K' : α → KP F β) :
    (head K >>= K') = head fun d0 w x => (K d0 w x >>= K') := by
  simp only [head, bind_assoc]
theorem head_congr {α : Type} {K K' : Dev nD → Vec F S256x2048 .bf16 → Vec F S256x256 .bf16 → KP F α}
    (h : ∀ d0 w x, K d0 w x = K' d0 w x) : head K = head K' := by
  rw [show K = K' from funext fun d0 => funext fun w => funext fun x => h d0 w x]

/-- The first product's store. -/
def store0 (x : Vec F S256x256 .bf16) : KP F PUnit :=
  Prog.lift (.store sM (rectB 0) (mmV w x) Finset.univ (View.stores_vmem h_S1x256x2048
    ((Memref.isWhole_whole cc0_scratch0).storeExact_slice rfl _ (packB 0)) (fun _ => rfl)) (.inl rfl))

theorem window137 : k0_part137 (F := F) xM (Memref.isWhole_whole _) wM (Memref.isWhole_whole _) oM (Memref.isWhole_whole _) sM (Memref.isWhole_whole _)
      rM (Memref.isWhole_whole _) cc0_scratch2 cc0_scratch3 =
    head fun d0 w x => pure ⟨d0, myW d0, crdW 0 d0, crdW 1 d0, crdW 2 d0, (SemArray.scalar (sig.barrier 0 rfl) : Sems sig S_),
      k0_pay169 w, k0_pay170 w x⟩ := by chain_rfl
theorem window138 (x : Vec F S256x256 .bf16) : k0_part138 (F := F) xM (Memref.isWhole_whole _) wM (Memref.isWhole_whole _) oM (Memref.isWhole_whole _) sM (Memref.isWhole_whole _)
      rM (Memref.isWhole_whole _) cc0_scratch2 cc0_scratch3
      d0 (myW d0) (crdW 0 d0) (crdW 1 d0) (crdW 2 d0) (SemArray.scalar (sig.barrier 0 rfl)) (k0_pay169 w) (k0_pay170 w x)
    = run ([.always (store0 w x), .always barWait] ++ [0, 1, 2, 3].map (ph1I d0 0) ++
        [mmI w 1, ph1I d0 1 0, ph1I d0 1 1]) (pure ⟨⟩) := by chain_rfl

/-- A program that is some steps, then a program. -/
def IsRun {α : Type} (m : KP F α) (xs : List (Item F)) (r : KP F α) : Prop := m = run xs r

/-- Joining a window with the steps of the rest. -/
theorem run_join {α β : Type} {m : KP F α} {K : α → KP F β} {xs ys : List (Item F)} {v : α} {r : KP F β}
    (hm : m = run xs (pure v)) (hK : IsRun (K v) ys r) : IsRun (m >>= K) (xs ++ ys) r := by
  unfold IsRun at *
  rw [run_bind hm hK]
  clear hm hK
  induction xs with
  | nil => rfl
  | cons x xs ih => rw [run_cons, List.cons_append, run_cons, ih]
theorem IsRun.done {α : Type} {m T : KP F α} {xs : List (Item F)} {r : KP F α} (h : IsRun m xs r) (h' : run xs r = T) :
    m = T := h.trans h'

/-- The steps after the head, up to and with phase 6's block 4. -/
def mid (d0 : Dev nD) (w : Vec F S256x2048 .bf16) (x : Vec F S256x256 .bf16) : List (Item F) :=
  [.always (store0 w x), .always barWait] ++ [0, 1, 2, 3].map (ph1I d0 0) ++
    [1, 2, 3, 4, 5, 6, 7].flatMap (fun q => mmI w q :: [0, 1, 2, 3].map (ph1I d0 q)) ++
    order2.map (ph2I d0) ++ order3.map (ph3I d0) ++ blocks8.map (ph5I d0) ++ [0, 1, 2, 3, 4].map (ph6I d0)

theorem part158_eq : k0_part158 (F := F) xM (Memref.isWhole_whole _) wM (Memref.isWhole_whole _) oM (Memref.isWhole_whole _) sM (Memref.isWhole_whole _)
      rM (Memref.isWhole_whole _) cc0_scratch2 cc0_scratch3 =
    head fun d0 w x => run (mid d0 w x) (pure ⟨myW d0, Scalar.cmpi .ne (myW d0) 5#32⟩) := by
  rw [k0_part158_eq_skeleton]
  unfold k0_part158_skel
  rw [window137, head_bind]
  refine head_congr fun d0 w x => ?_
  refine (pure_bind _ _).trans ?_
  apply IsRun.done
  · apply run_join (window138 d0 w x)
    apply run_join (window139 d0 w)
    apply run_join (window140 d0 w)
    apply run_join (window141 d0 w)
    apply run_join (window142 d0 w)
    dsimp only
    apply run_join (window143 d0)
    apply run_join (window144 d0)
    dsimp only
    apply run_join (window145 d0)
    dsimp only
    apply run_join (window146 d0)
    dsimp only
    apply run_join (window147 d0)
    apply run_join (window148 d0)
    apply run_join (window149 d0)
    dsimp only
    apply run_join (window150 d0)
    dsimp only
    apply run_join (window151 d0)
    apply run_join (window152 d0)
    apply run_join (window153 d0)
    dsimp only
    apply run_join (window154 d0)
    dsimp only
    apply run_join (window155 d0)
    apply run_join (window156 d0)
    apply run_join (window157 d0)
    refine (show IsRun _ ([6, 7].map (ph5I d0) ++ [0, 1, 2, 3, 4].map (ph6I d0))
      (pure (⟨myW d0, Scalar.cmpi .ne (myW d0) 5#32⟩ : Σ' (_ : BitVec 32), BitVec 1)) from ?_)
    unfold IsRun
    chain_rfl
  · chain_rfl

/-- The printed body is the list of steps. -/
theorem body_eq : cc0_body (F := F) xM (Memref.isWhole_whole _) wM (Memref.isWhole_whole _) oM (Memref.isWhole_whole _) sM (Memref.isWhole_whole _)
      rM (Memref.isWhole_whole _) cc0_scratch2 cc0_scratch3 = body := by
  rw [cc0_body_eq_skeleton]
  unfold cc0_body_skel
  rw [part158_eq, head_bind]
  refine Eq.trans (b := head fun d0 w x => Pipeline.chain ((mid d0 w x ++ [5, 6, 7].map (ph6I d0)).map Item.prog)) ?_ ?_
  · refine head_congr fun d0 w x => ?_
    refine Eq.trans (b := run (mid d0 w x ++ [5, 6, 7].map (ph6I d0)) (Pipeline.chain [])) ?_ ?_
    · refine run_join rfl (?_ : _ = _)
      chain_rfl
    · rw [run_chain, List.append_nil]
  · chain_rfl

end Cert.Cube
-- ==== Proof.Launch.lean ====
/-
The launch: from any memory with every counter at zero, the eight devices run to the end, and every final state has each
device's arguments unchanged, its result at the computed value, and every semaphore at zero.
-/
module

public import proofs.«01_k».proof.Proof.Deal
public import proofs.«01_k».proof.Proof.BodyEq
public import Idealize.ShloMosaic.Lib.Pipeline.Launch
public import Idealize.ShloMosaic.Lib.Pipeline.Kit
public import Idealize.ShloMosaic.Lib.Pipeline.CollectiveSegs

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- What the staging buffers of x and of w hold on device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def D₀ : Data F := ⟨xstg m ρ, wstg m ρ⟩

/-- What a device holds over the body besides its staging buffers: before it, after it. -/
def X (c : Dev nD) : sProp 𝕄 := iprop((∃ K, Ctx (D₀ m ρ) K) ∗ start c)
def Φ₀ (c : Dev nD) : sProp 𝕄 :=
  iprop(X m ρ c ∗ (bigSep Finset.univ fun x : QH => sAny c x.1 x.2) ∗ bigSep Finset.univ fun y : QH × Fin 3 => rAny c y.1.1 y.2 y.1.2)
def Φ₁ (c : Dev nD) : sProp 𝕄 := iprop(semVal (barCell c) 0 ∗ bigSep Finset.univ fun x : QH => Fin1 c x.1 x.2)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => (D₀ m ρ).outV c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

omit [FloatOps F] in
theorem bigSep_three (Φ : Fin cfg0.W → sProp 𝕄) : bigSep Finset.univ Φ = iprop(Φ (0 : Fin 3) ∗ Φ (1 : Fin 3) ∗ Φ (2 : Fin 3)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_x (c : Dev nD) (d) : (dats m ρ 0 c).before (0 : Fin 3) t0_0 d = xstg m ρ c := by
  unfold Dat.before
  rw [if_pos (show (cfg0.win (0 : Fin 3)).fetch t0_0 = true from rfl)]
  rfl
theorem before_w (c : Dev nD) (d) : (dats m ρ 0 c).before (1 : Fin 3) t0_0 d = wstg m ρ c := by
  unfold Dat.before
  rw [if_pos (show (cfg0.win (1 : Fin 3)).fetch t0_0 = true from rfl)]
  rfl

set_option maxRecDepth 4000 in
def pre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def post (c : Dev nD) : sProp 𝕄 :=
  iprop(Φ₁ c ∗ (dats m ρ 0 c).owesAt () t0_0.succ ∗ stg c cc0_stg0_0 (xstg m ρ c) ∗ stg c cc0_stg1_0 (wstg m ρ c)
    ∗ stg c cc0_stg2_0 ((D₀ m ρ).outV c))

/-- The body of a device between the two. -/
theorem sound (c : Dev nD) : pre m ρ c ⊢ WP c body (fun _ => post m ρ c) := by
  unfold pre Φ₀ X
  simp only [before_x, before_w]
  iintro ⟨⟨⟨⟨%K, #HK⟩, Hst⟩, Hs, Hr⟩, Ho, ⟨%_, %gx, %hx, Hx⟩, ⟨%_, %gw, %hw, Hw⟩, ⟨%d, %go, -, Hout⟩⟩
  unfold Dat.owesAt Pipeline.owesWithin
  icases Ho with ⟨%W, -, Ho⟩
  subst hx hw
  iapply (WP_last (body_spec (D₀ m ρ) K c go)) $$ [Hst Hs Hr Ho Hx Hw Hout]
  · isplitr; · iexact HK
    isplitl [Hst]; · iexact Hst
    isplitl [Hx]; · unfold xPts; iexact Hx
    isplitl [Hw]; · unfold wPts; iexact Hw
    isplitl [Hout]; · unfold oPts; iexact Hout
    isplitl [Ho]; · unfold owesX; iexists W; iexact Ho
    isplitl [Hs]; · iexact Hs
    iexact Hr
  unfold xPts wPts oPts owesX post Φ₁ Dat.owesAt Pipeline.owesWithin
  iintro ⟨Hw, Hx, ⟨%W', Ho⟩, Hout, HzB, HF⟩
  isplitl [HzB HF]
  · isplitl [HzB]; · iexact HzB
    iexact HF
  isplitl [Ho]
  · iexists W'
    isplitr; · ipureintro; exact fun _ _ => Or.inl trivial
    iexact Ho
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 4000 in
/-- The obligation of the launch on device `c`. -/
theorem body_obligation (c : Dev nD) : BodyObligation (dats (F := F) m ρ 0 c) (defs₀ (F := F)) 𝒱₀ () Set.univ := fun t => by
  rw [fin_N0 t]
  rw [bigSep_three, bigSep_three]
  simp only [owns_whole_eq]
  show pre m ρ c ⊢ wp frame (wpE (defs₀ (F := F)) 𝒱₀ c none) Set.univ
    (cc0_body xM (Memref.isWhole_whole _) wM (Memref.isWhole_whole _) oM (Memref.isWhole_whole _) sM (Memref.isWhole_whole _)
      rM (Memref.isWhole_whole _) cc0_scratch2 cc0_scratch3) (fun _ => post m ρ c)
  rw [body_eq]
  exact sound m ρ c

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (D₀ m ρ) c)
      ⊢ |={Set.univ}=> iprop(X m ρ c ∗ emp) := by
  iintro ⟨-, #Hlev, Hcr, -, HG⟩
  ihave Hc := (creds (F := F) c) $$ Hcr
  unfold G'
  icases HG with ⟨⟨%K, #HR⟩, Hlin⟩
  imodintro
  isplitl
  · unfold X
    isplitr
    · iexists K
      unfold Ctx
      isplitr; · iexact HR
      iexact Hlev
    iapply (start_of (F := F) c)
    isplitl [Hlin]; · iexact Hlin
    iexact Hc
  · iempintro

theorem phi0_intro (c : Dev nD) :
    iprop(X m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hf⟩, ⟨%g, Hg⟩⟩
  isplitl [Hs]; · iexact Hs
  isplitl [Hf]
  · iapply (send_split c f); iexact Hf
  iapply (recv_split c g); iexact Hg

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁
  iintro ⟨HzB, HF⟩
  isplitl [HzB]; · iexact HzB
  iapply (finish (F := F) c)
  iexact HF

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (le_of_eq (by fin_cases w <;> fin_cases s <;> rfl)) _ (by
      rcases t with ⟨_ | _, ht⟩
      · exact Above.start c
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values: every execution ends, every array at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (D₀ m ρ)) (G' := G' (D₀ m ρ)) (u₀ := u₀)
    (hu₀ := by
      unfold u₀
      iintro Hu
      ihave H := (ownU_pair _ _) $$ Hu
      icases H with ⟨HP, HX⟩
      imod (fund_all (D₀ m ρ)) $$ HX with HG
      imodintro
      isplitl [HP] <;> iassumption)
    (hglob := glob (D₀ m ρ))
    (hA := fun _ _ => rfl) (hpf := fun _ k => k.elim0)
    (X := X m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they were. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.Cube
-- ==== Proof.Value.lean ====
/-
The value: in exact arithmetic the eight partial products that a device's result adds up are the whole product's rows.
-/
module

public import proofs.«01_k».proof.Proof.Launch
public import proofs.«01_k».proof.Defs
public import proofs.«01_k».proof.Proof.Gen.ReferenceIdeal
public import Idealize.ShloMosaic.Lib.MatmulPlain
public import Idealize.ShloMosaic.Lib.StackMember
public import Idealize.ShloMosaic.Lib.ValueIdx
public import Idealize.ShloMosaic.Lib.Layout

@[expose] public section

noncomputable section

namespace Cert.Cube

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

/-! ## The sum over the cube -/

/-- The devices in the order in which the owner's sum meets them. -/
def met (q : Fin 8) (h : Fin 4) (c : Dev nD) : List (Dev nD) :=
  let n0 := nbD (ax q h 0)
  let n1 := nbD (ax q h 1)
  let n2 := nbD (ax q h 2)
  [c, n0 c, n1 c, n0 (n1 c), n2 c, n0 (n2 c), n1 (n2 c), n0 (n1 (n2 c))]

theorem met_nodup (q : Fin 8) (h : Fin 4) (c : Dev nD) : (met q h c).Nodup := by revert q h c; decide +kernel
theorem met_univ (q : Fin 8) (h : Fin 4) (c : Dev nD) : Finset.univ = (met q h c).toFinset := by revert q h c; decide +kernel

theorem sum_met (q : Fin 8) (h : Fin 4) (c : Dev nD) (g : Dev nD → EReal) : ((met q h c).map g).sum = ∑ d : Dev nD, g d := by
  rw [met_univ q h c, List.sum_toFinset _ (met_nodup q h c)]

theorem outT_sum (D : Data Ideal) (q : Fin 8) (h : Fin 4) (c : Dev nD) (i : S256x512.Idx) :
    (D.outT q h c i : EReal) = ∑ d : Dev nD, (D.part q h d i : EReal) := by
  rw [← sum_met q h c]
  show ((D.part q h c i + D.part q h (nbD (ax q h 0) c) i)
      + (D.part q h (nbD (ax q h 1) c) i + D.part q h (nbD (ax q h 0) (nbD (ax q h 1) c)) i))
      + ((D.part q h (nbD (ax q h 2) c) i + D.part q h (nbD (ax q h 0) (nbD (ax q h 2) c)) i)
        + (D.part q h (nbD (ax q h 1) (nbD (ax q h 2) c)) i + D.part q h (nbD (ax q h 0) (nbD (ax q h 1) (nbD (ax q h 2) c))) i))
      = (((met q h c).map fun d => (D.part q h d i : EReal)).sum : EReal)
  simp only [met, List.map_cons, List.map_nil, List.sum_cons, List.sum_nil, add_zero, add_assoc]

/-! ## A partial product at an index -/

theorem partT_apply (w : Vec Ideal S256x2048 .bf16) (x : Vec Ideal S256x256 .bf16) (h : Fin 4) (r : Fin 256) (b : Fin 512)
    (n : Fin 2048) (hn : n.val = 512 * h.val + b.val) :
    (partT w x h (ix2 r b) : EReal) = ∑ k : Fin 256, (x (ix2 r k) : EReal) * (w (ix2 k n) : EReal) := by
  have e : (rectO h).emb (ix2 r b) = ix2 r n := by
    funext d; refine Fin.ext ?_
    rw [Rect.emb_apply]
    fin_cases d
    · show 0 + 1 * r.val = r.val; omega
    · show 512 * h.val + 1 * b.val = n.val; omega
  show FloatOps.matmul (DotDims.plain 256 256 2048) none _ _ (constant (F := Ideal) S256x2048 .f32 0x00000000#32) ((rectO h).emb (ix2 r b)) = _
  rw [e, Ideal.matmul_plain_apply, constant_apply, Ideal.ofBits_zero_f32, zero_add, shapeCast_self, shapeCast_self]

/-- The elements of the two blocks and of the result. -/
def Data.xE (D : Data Ideal) (c : Dev nD) (R : Fin 2048) (k : Fin 256) : EReal := D.x c (ix2 R k)
def Data.wE (D : Data Ideal) (c : Dev nD) (k : Fin 256) (n : Fin 2048) : EReal := D.w c (ix2 k n)
def Data.outE (D : Data Ideal) (c : Dev nD) (r : Fin 256) (n : Fin 2048) : EReal := D.outV c (ix2 r n)

theorem part_apply (D : Data Ideal) (q : Fin 8) (h : Fin 4) (c : Dev nD) (r : Fin 256) (b : Fin 512)
    (n : Fin 2048) (hn : n.val = 512 * h.val + b.val) (R : Fin 2048) (hR : R.val = 256 * q.val + r.val) :
    (D.part q h c (ix2 r b) : EReal) = ∑ k : Fin 256, D.xE c R k * D.wE c k n := by
  unfold Data.part
  rw [partT_apply _ _ h r b n hn]
  refine Finset.sum_congr rfl fun k _ => ?_
  have e1 : (rectX q).emb (ix2 r k) = ix2 R k := by
    funext d; refine Fin.ext ?_
    rw [Rect.emb_apply]
    fin_cases d
    · show 256 * q.val + 1 * r.val = R.val; omega
    · show 0 + 1 * k.val = k.val; omega
  have e2 : rectW.emb (ix2 k n) = ix2 k n := by
    funext d; refine Fin.ext ?_
    rw [Rect.emb_apply]
    fin_cases d
    · show 0 + 1 * k.val = k.val; omega
    · show 0 + 1 * n.val = n.val; omega
  have h1 : D.xV q c (ix2 r k) = D.xE c R k := congrArg (D.x c) e1
  have h2 : D.wV c (ix2 k n) = D.wE c k n := congrArg (D.w c) e2
  rw [h1, h2]

/-! ## All eight -/

/-- Position `k` of block `d` of eight. -/
def pos (d : Dev nD) (k : Fin 256) : Fin 2048 :=
  ⟨d.val * 256 + k.val, by have h : d.val < 8 := d.isLt; have := k.isLt; omega⟩

theorem sum_devices (f : Fin 2048 → EReal) : ∑ d : Dev nD, ∑ k : Fin 256, f (pos d k) = ∑ k : Fin 2048, f k := by
  refine (Fintype.sum_prod_type' (f := fun (d : Dev nD) (k : Fin 256) => f (pos d k))).symm.trans ?_
  refine Fintype.sum_equiv (finProdFinEquiv (m := 8) (n := 256)) _ _ fun y => congrArg f (Fin.ext ?_)
  show y.1.val * 256 + y.2.val = y.2.val + 256 * y.1.val
  omega

theorem glueO_apply {F : FTy → Type} [FloatOps F] (v : Fin 4 → FVec F S256x512 .f32) (r : Fin 256) (h : Fin 4) (b : Fin 512)
    (n : Fin 2048) (hn : n.val = 512 * h.val + b.val) : glueO v (ix2 r n) = v h (ix2 r b) := by
  have hb := b.isLt
  have e1 : ∀ p, (⟨n.val / 512, p⟩ : Fin 4) = h := fun p => Fin.ext (by show n.val / 512 = h.val; omega)
  have e2 : ∀ p, (⟨n.val % 512, p⟩ : Fin 512) = b := fun p => Fin.ext (by show n.val % 512 = b.val; omega)
  unfold glueO
  exact congrArg₂ (fun (x : Fin 4) (y : Fin 512) => v x (ix2 r y)) (e1 _) (e2 _)

/-- Devices whose buffers hold the column blocks of `A` and the row blocks of `B` compute the row blocks of the product. -/
theorem outV_apply (D : Data Ideal) (A B : Fin 2048 → Fin 2048 → EReal)
    (hx : ∀ (c : Dev nD) (R : Fin 2048) (k : Fin 256), D.xE c R k = A R (pos c k))
    (hw : ∀ (c : Dev nD) (k : Fin 256) (n : Fin 2048), D.wE c k n = B (pos c k) n)
    (c : Dev nD) (r : Fin 256) (n : Fin 2048) :
    D.outE c r n = ∑ k : Fin 2048, A (pos c r) k * B k n := by
  obtain ⟨h, b, hn⟩ : ∃ (h : Fin 4) (b : Fin 512), n.val = 512 * h.val + b.val :=
    ⟨⟨n.val / 512, by have := n.isLt; omega⟩, ⟨n.val % 512, Nat.mod_lt _ (by decide)⟩, (Nat.div_add_mod n.val 512).symm⟩
  have hr : (pos c r).val = 256 * (own c).val + r.val := by
    show c.val * 256 + r.val = 256 * c.val + r.val
    omega
  have e : D.outE c r n = ∑ d : Dev nD, (D.part (own c) h d (ix2 r b) : EReal) :=
    (glueO_apply (fun h => D.outT (own c) h c) r h b n hn).trans (outT_sum D (own c) h c (ix2 r b))
  rw [e, ← sum_devices]
  refine Finset.sum_congr rfl fun d _ => ?_
  rw [part_apply D (own c) h d r b n hn (pos c r) hr]
  exact Finset.sum_congr rfl fun k _ => by rw [hx, hw]

/-! ## The result array -/

section

variable (m : (ℓ : Loc nD τ sig) → Buf (Elt Ideal) ℓ) (ρ : Dev nD → PrngReg)

theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
theorem wstg_eq (c : Dev nD) : wstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _

theorem finalA_out (c : Dev nD) : finalA m ρ c (2 : Fin 3) = (D₀ m ρ).outV c := by
  have hz : (fun a => (win0_2.index (0 : Fin 1)) a * main_v1.ty.shape.size a) = fun _ => 0 :=
    funext fun a => by fin_cases a <;> decide
  have hr := fun f => Memref.read_access_unit_zero (Elt Ideal) main_v1 hz (fun a => by fin_cases a <;> decide) f
  refine (hr (finalA m ρ c (2 : Fin 3))).symm.trans ?_
  show (win0_2.blk (0 : Fin 1)).view.read (Elt Ideal) (finalA m ρ c (2 : Fin 3)) = _
  unfold finalA
  rw [show cfg0.N = ((0 : Fin 1) : Fin cfg0.N).val + 1 from rfl, (dats m ρ 0 c).arrAt_succ (2 : Fin 3) (0 : Fin 1),
    show (cfg0.win (2 : Fin 3)).flush (0 : Fin 1) = true from by decide, if_pos rfl]
  exact View.read_write_univ _ _

/-- Every device's result array ends as its row block of the product of the whole arrays. -/
theorem final_block (A B : (⟨2, ![2048, 2048]⟩ : Shape).Idx → EReal)
    (hx : ∀ c : Dev nD, m ((c : Thread nD τ).loc main_arg0) = Layout.block ⟨2, ![2048, 256]⟩ ⟨2, ![2048, 2048]⟩ 1 8 c A)
    (hw : ∀ c : Dev nD, m ((c : Thread nD τ).loc main_arg1) = Layout.block ⟨2, ![256, 2048]⟩ ⟨2, ![2048, 2048]⟩ 0 8 c B)
    (c : Dev nD) : finalA m ρ c (2 : Fin 3)
      = Layout.block ⟨2, ![256, 2048]⟩ ⟨2, ![2048, 2048]⟩ 0 8 c
          (extf .f32 (truncf .bf16 (Host.dotGeneral (F := Ideal) (φ₁ := .bf16) (φ₂ := .bf16) Cert.ReferenceIdeal.dot_S2048x2048_S2048x2048_S2048x2048_1_0_0_1_n_n none
            A B) bitsLt_bf16_f32) bitsLt_bf16_f32) := by
  rw [finalA_out]
  funext i
  obtain ⟨r, n, rfl⟩ : ∃ (r : Fin 256) (n : Fin 2048), i = ix2 r n := ⟨i 0, i 1, eq_ix2 i⟩
  have e : Layout.Tiles.idx (S := ⟨2, ![256, 2048]⟩) (T := ⟨2, ![2048, 2048]⟩) (a := 0) (k := 8) (by decide) c (ix2 r n)
      = ix2 (pos c r) n := by
    funext d; refine Fin.ext ?_
    fin_cases d <;> rfl
  refine (outV_apply (D₀ m ρ) (fun R k => A (ix2 R k)) (fun k n => B (ix2 k n)) (fun c R k => ?_) (fun c k n => ?_) c r n).trans ?_
  · show xstg m ρ c (ix2 R k) = _
    rw [xstg_eq, hx]
    refine congrArg A ?_
    funext d; refine Fin.ext ?_
    fin_cases d <;> rfl
  · show wstg m ρ c (ix2 k n) = _
    rw [wstg_eq, hw]
    refine congrArg B ?_
    funext d; refine Fin.ext ?_
    fin_cases d <;> rfl
  · show _ = Host.dotGeneral (F := Ideal) (φ₁ := .bf16) (φ₂ := .bf16) (DotDims.plain 2048 2048 2048) none A B (Layout.Tiles.idx _ c (ix2 r n))
    rw [e, StackMember.dotGeneral_plain_apply]

end

end Cert.Cube
-- ==== Proof.lean ====
/-
The claims about the kernel and its reference, and their proof.

The kernel is proved once, in the idealized program and over any float values (`Cert.Cube.run_main`, Launch.lean): from any
memory with every counter at zero the eight devices run to the end, with their arguments unchanged, every counter at zero,
and each result at a value that the proof names. The two frames of the kernel are that run at the words and in exact
arithmetic; the value claim adds the equation of Value.lean, that in exact arithmetic the named value is the device's rows
of the reference's product.

The modules, in order: Steps and BodyEq (the body as a list of steps), Tables and Tiles (who sends which tile when, and the
tiles of the two buffers), Protocol (what each semaphore's units stand for), StepWp, BlockWp, Phases and Body (each step,
each phase, the whole body), Deal and Launch (what the devices start with, and the run), Value (the equation).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-! ## The kernel as printed, twice

The idealized kernel has no rewrite, so it is the kernel's text under another name: the run is proved once and
carried over by the equality of the two body tables. -/

set_option maxRecDepth 100000 in
/-- The two programs have the same kernel bodies. -/
theorem bodies_eq : Cert.Kernel.defs₀ (F := Bits) = Cert.KernelIdeal.defs₀ (F := Bits) := by
  unfold Cert.Kernel.defs₀ Cert.KernelIdeal.defs₀
  refine congrArg Defs.onTc ?_
  funext ℓ a
  obtain ⟨k, hk⟩ := ℓ
  cases k with
  | zero => rfl
  | succ k => exact absurd hk (Nat.not_lt.2 (Nat.le_add_left _ _))

/-- … and so the same table with the pipeline's own labels. -/
theorem tables_eq : Cert.Kernel.defs (F := Bits) = Cert.KernelIdeal.defs (F := Bits) :=
  congrArg (Pipeline.defs Cert.KernelIdeal.pcfgs) bodies_eq

/-- The kernel as it is: it runs to the end, keeps its arguments, and leaves every semaphore at zero. -/
theorem frame_kernel : Cert.quiescent_Kernel := by
  intro m ρ _
  have h := (θ_run Cert.KernelIdeal.defs _ _).mono
    (fun (r : _) (h : Cert.Cube.QC m ρ r ∧ r.2.sem = fun _ => 0) =>
      (⟨fun c => ⟨(h.1 c (0 : Fin 3)).trans (Cert.Cube.finalA_x m ρ c), (h.1 c (1 : Fin 3)).trans (Cert.Cube.finalA_w m ρ c)⟩, h.2⟩ :
        (∀ c : Dev Cert.KernelIdeal.nD,
          r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))
        ∧ r.2.sem = fun _ => 0))
    (Cert.Cube.run_main (F := Bits) m ρ)
  rw [tables_eq]
  exact h

/-- The kernel in exact arithmetic, the same. -/
theorem frame_kernelIdeal : Cert.quiescent_KernelIdeal := by
  intro m ρ _
  exact (θ_run Cert.KernelIdeal.defs _ _).mono
    (fun _ h => ⟨fun c => ⟨(h.1 c (0 : Fin 3)).trans (Cert.Cube.finalA_x m ρ c), (h.1 c (1 : Fin 3)).trans (Cert.Cube.finalA_w m ρ c)⟩, h.2⟩)
    (Cert.Cube.run_main (F := Ideal) m ρ)

/-- The reference in exact arithmetic, the same; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic every device ends with its row block of the reference's product. -/
theorem algebraic : Cert.algebraic_KernelIdeal_ReferenceIdeal := by
  intro m ρ m' ρ' _ hagree
  refine ⟨_, ?_, (θ_run Cert.ReferenceIdeal.defs _ _).mono (fun _ h => h 0) (Cert.ReferenceIdeal.Value.run (F := Ideal) m' ρ')⟩
  exact (θ_run Cert.KernelIdeal.defs _ _).mono
    (fun _ h c => ⟨(h.1 c (2 : Fin 3)).trans (Cert.Cube.final_block m ρ _ _ (fun c => (hagree c).1) (fun c => (hagree c).2) c),
      (h.1 c (0 : Fin 3)).trans (Cert.Cube.finalA_x m ρ c), (h.1 c (1 : Fin 3)).trans (Cert.Cube.finalA_w m ρ c)⟩)
    (Cert.Cube.run_main (F := Ideal) m ρ)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
